-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference [hPre_ids_in_range : Cert.Pre_ids_in_range.Facts] (m : (ℓ : Loc Cert.Reference.nD Cert.Reference.τ Cert.Reference.sig) → Buf (Elt Bits) ℓ) : Prop :=
  ∀ c : Dev Cert.Reference.nD,
    (Cert.Pre_ids_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] [hPre_ids_in_range : Cert.Pre_ids_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Kernel_Reference [hKernel : Cert.Kernel.Facts] [hReference : Cert.Reference.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v0_0)) (v1 : (c : Dev Cert.Kernel.nD) → Buf (Elt Bits) ((c.tc : Thread Cert.Kernel.nD Cert.Kernel.τ).loc Cert.Kernel.main_v0_1)) (v2 : (c : Dev Cert.Kernel.nD) → Buf (Elt Bits) ((c.tc : Thread Cert.Kernel.nD Cert.Kernel.τ).loc Cert.Kernel.main_v0_2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0_0) = v0 c
          ∧ r.2.mem ((c.tc : Thread Cert.Kernel.nD Cert.Kernel.τ).loc Cert.Kernel.main_v0_1) = v1 c
          ∧ r.2.mem ((c.tc : Thread Cert.Kernel.nD Cert.Kernel.τ).loc Cert.Kernel.main_v0_2) = v2 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_v3) = v1 c
          ∧ r.2.mem ((c.tc : Thread Cert.Reference.nD Cert.Reference.τ).loc Cert.Reference.main_v6) = v2 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def Claim : Prop :=
  ∃ (hKernel : Cert.Kernel.Facts) (hKernelIdeal : Cert.KernelIdeal.Facts) (hReferenceIdeal : Cert.ReferenceIdeal.Facts) (hReference : Cert.Reference.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ quiescent_Reference (hReference := hReference) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
    ∧ bitexact_Kernel_Reference (hKernel := hKernel) (hReference := hReference) (hPre_ids_in_range := hPre_ids_in_range)
-- ==== Pre_ids_in_range.lean ====
abbrev S16384 : Shape := ⟨1, ![16384]⟩
abbrev S1000000x64 : Shape := ⟨2, ![1000000, 64]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn_part1 {F : FTy → Type} [FloatOps F] (main_arg2 : IVec S16384 32) (main_v14 : IVec S_ 1) (main_c_7 : IVec S_ 32) : IVec S_ 1 :=
  let main_v15 : IVec S16384 32 := broadcastInDim S16384 ![] bcast_S_S16384 main_c_7
  let main_v16 : IVec S16384 1 := cmpi .sge main_arg2 main_v15
  let main_c_8 : IVec S_ 1 := constantI S_ 1 1#1
  let main_v17 : IVec S_ 1 := (fun x v => Host.reduce IntOp.andi x v reducesTo_S16384_S_d0 h_S_) main_v16 main_c_8
  let main_v18 : IVec S_ 1 := andi main_v14 main_v17
  let main_c_9 : IVec S_ 32 := constantI S_ 32 500000#32
  let main_v19 : IVec S16384 32 := broadcastInDim S16384 ![] bcast_S_S16384 main_c_9
  let main_v20 : IVec S16384 1 := cmpi .slt main_arg2 main_v19
  let main_c_10 : IVec S_ 1 := constantI S_ 1 1#1
  let main_v21 : IVec S_ 1 := (fun x v => Host.reduce IntOp.andi x v reducesTo_S16384_S_d0 h_S_) main_v20 main_c_10
  let main_v22 : IVec S_ 1 := andi main_v18 main_v21
  main_v22

def fn {F : FTy → Type} [FloatOps F] (main_arg0 : IVec S16384 32) (main_arg1 : IVec S16384 32) (main_arg2 : IVec S16384 32) (main_arg3 : FVec F S1000000x64 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 500000#32
  let main_v3 : IVec S16384 32 := broadcastInDim S16384 ![] bcast_S_S16384 main_c_1
  let main_v4 : IVec S16384 1 := cmpi .slt main_arg0 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_c_3 : IVec S_ 32 := constantI S_ 32 0#32
  let main_v7 : IVec S16384 32 := broadcastInDim S16384 ![] bcast_S_S16384 main_c_3
  let main_v8 : IVec S16384 1 := cmpi .sge main_arg1 main_v7
  let main_c_4 : IVec S_ 1 := constantI S_ 1 1#1
  let main_v9 : IVec S_ 1 := (fun x v => Host.reduce IntOp.andi x v reducesTo_S16384_S_d0 h_S_) main_v8 main_c_4
  let main_v10 : IVec S_ 1 := andi main_v6 main_v9
  let main_c_5 : IVec S_ 32 := constantI S_ 32 500000#32
  let main_v11 : IVec S16384 32 := broadcastInDim S16384 ![] bcast_S_S16384 main_c_5
  let main_v12 : IVec S16384 1 := cmpi .slt main_arg1 main_v11
  let main_c_6 : IVec S_ 1 := constantI S_ 1 1#1
  let main_v13 : IVec S_ 1 := (fun x v => Host.reduce IntOp.andi x v reducesTo_S16384_S_d0 h_S_) main_v12 main_c_6
  let main_v14 : IVec S_ 1 := andi main_v10 main_v13
  let main_c_7 : IVec S_ 32 := constantI S_ 32 0#32
  fn_part1 (F := F) main_arg2 main_v14 main_c_7
-- ==== Kernel.lean ====
abbrev S16384 : Shape := ⟨1, ![16384]⟩
abbrev S1000000x64 : Shape := ⟨2, ![1000000, 64]⟩
abbrev S16384x64 : Shape := ⟨2, ![16384, 64]⟩
abbrev S512 : Shape := ⟨1, ![512]⟩
abbrev S16x512 : Shape := ⟨2, ![16, 512]⟩
abbrev S8192x64 : Shape := ⟨2, ![8192, 64]⟩
abbrev S512x64 : Shape := ⟨2, ![512, 64]⟩
abbrev S_ : Shape := ⟨0, ![]⟩
abbrev S1x512 : Shape := ⟨2, ![1, 512]⟩
abbrev S1 : Shape := ⟨1, ![1]⟩
abbrev S1x64 : Shape := ⟨2, ![1, 64]⟩

abbrev nBuf : Table → Nat
  | .hbm => 7
  | .shared => 2
  | .local .scVector .smem => 1
  | .local .scVector .vmem => 2
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S1000000x64, .f32⟩
  | .hbm, ⟨4, _⟩ => ⟨S16384x64, .f32⟩
  | .hbm, ⟨5, _⟩ => ⟨S16384x64, .f32⟩
  | .hbm, ⟨6, _⟩ => ⟨S16384x64, .f32⟩
  | .shared, ⟨0, _⟩ => ⟨S16x512, .i32⟩
  | .shared, ⟨1, _⟩ => ⟨S8192x64, .f32⟩
  | .local .scVector .smem, ⟨0, _⟩ => ⟨S512, .i32⟩
  | .local .scVector .vmem, ⟨0, _⟩ => ⟨S512, .i32⟩
  | .local .scVector .vmem, ⟨1, _⟩ => ⟨S512x64, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_0_scv : Ref sig .scVector := ⟨.hbm, 4, rfl⟩
abbrev main_v0_1_scv : Ref sig .scVector := ⟨.hbm, 5, rfl⟩
abbrev main_v0_2_scv : Ref sig .scVector := ⟨.hbm, 6, rfl⟩
abbrev cc0_scratch1 : Ref sig .scVector := ⟨.shared, 0, rfl⟩
abbrev cc0_scratch3 : Ref sig .scVector := ⟨.shared, 1, rfl⟩
abbrev cc0_scratch2 : Ref sig .scVector := ⟨.smem, 0, rfl⟩
abbrev cc0_scratch0 : Ref sig .scVector := ⟨.vmem, 0, rfl⟩
abbrev cc0_scratch4 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c0_i32_35_r1 : BitVec 32 := 0#32
  ![arg1.toNat, 0]
@[reducible] def k0_t1_loop : Scf.Loop 32 :=
  let c0_i32 : BitVec 32 := 0#32
  let c512_i32_1 : BitVec 32 := 512#32
  let v4 : BitVec 32 := Scalar.addi c0_i32 c512_i32_1
  let c1_i32 : BitVec 32 := 1#32
  ⟨c0_i32, v4, c1_i32⟩
def k0_off3 (k0_t1 : Fin k0_t1_loop.trips) : Fin 1 → Nat :=
  let c0_i32_36 : BitVec 32 := 0#32
  let c0_i32 : BitVec 32 := 0#32
  let c1_i32 : BitVec 32 := 1#32
  let arg16 : BitVec 32 := Scf.iv c0_i32 c1_i32 k0_t1
  let c1_i32_35 : BitVec 32 := 1#32
  let v22 : BitVec 32 := Scalar.muli arg16 c1_i32_35
  let v23 : BitVec 32 := Scalar.addi c0_i32_36 v22
  let v24 : Index := Scalar.indexCast v23
  ![v24.toNat]
def k0_off4 (i : grid0.Coords) (k0_t1 : Fin k0_t1_loop.trips) : Fin 2 → Nat :=
  let arg1 : BitVec 32 := BitVec.ofNat 32 (i 1).val
  let c512_i32_0 : BitVec 32 := 512#32
  let v3 : BitVec 32 := Scalar.muli arg1 c512_i32_0
  let c0_i32_36 : BitVec 32 := 0#32
  let c0_i32 : BitVec 32 := 0#32
  let c1_i32 : BitVec 32 := 1#32
  let arg16 : BitVec 32 := Scf.iv c0_i32 c1_i32 k0_t1
  let c1_i32_35 : BitVec 32 := 1#32
  let v22 : BitVec 32 := Scalar.muli arg16 c1_i32_35
  let v23 : BitVec 32 := Scalar.addi c0_i32_36 v22
  let v27 : BitVec 32 := Scalar.addi v3 v23
  let c0_i32_38 : BitVec 32 := 0#32
  ![v27.toNat, 0]
def k0_off5 (v25 : BitVec 32) : Fin 2 → Nat :=
  let c0_i32_37 : BitVec 32 := 0#32
  let v26 : BitVec 32 := Scalar.addi v25 c0_i32_37
  let c0_i32_39 : BitVec 32 := 0#32
  ![v26.toNat, 0]

def k0_chk1 (v25 : BitVec 32) : Prop :=
  (∀ a, (k0_off5 v25) a + S1x64.size a ≤ S1000000x64.size a)
theorem k0_off5_inb : ∀ (v25 : BitVec 32) (k0_hw1 : k0_chk1 v25), ∀ a, (k0_off5 v25) a + S1x64.size a ≤ S1000000x64.size a := fun v25 k0_hw1 => k0_hw1

@[reducible] def k0_t2_loop : Scf.Loop 32 :=
  let c0_i32_3 : BitVec 32 := 0#32
  let c512_i32_4 : BitVec 32 := 512#32
  let v5 : BitVec 32 := Scalar.addi c0_i32_3 c512_i32_4
  let c1_i32_5 : BitVec 32 := 1#32
  ⟨c0_i32_3, v5, c1_i32_5⟩
def k0_off6 (i : grid0.Coords) : Fin 2 → Nat :=
  let arg1 : BitVec 32 := BitVec.ofNat 32 (i 1).val
  let c512_i32_0 : BitVec 32 := 512#32
  let v3 : BitVec 32 := Scalar.muli arg1 c512_i32_0
  let c0_i32_35_r3 : BitVec 32 := 0#32
  ![v3.toNat, 0]
def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_7 : BitVec 32 := 0#32
  ![v2.toNat, 0]
@[reducible] def k0_t3_loop : Scf.Loop 32 :=
  let c0_i32_11 : BitVec 32 := 0#32
  let c512_i32_12 : BitVec 32 := 512#32
  let v10 : BitVec 32 := Scalar.addi c0_i32_11 c512_i32_12
  let c1_i32_13 : BitVec 32 := 1#32
  ⟨c0_i32_11, v10, c1_i32_13⟩
def k0_off8 (k0_t3 : Fin k0_t3_loop.trips) : Fin 1 → Nat :=
  let c0_i32_36 : BitVec 32 := 0#32
  let c0_i32_11 : BitVec 32 := 0#32
  let c1_i32_13 : BitVec 32 := 1#32
  let arg16 : BitVec 32 := Scf.iv c0_i32_11 c1_i32_13 k0_t3
  let c1_i32_35 : BitVec 32 := 1#32
  let v22 : BitVec 32 := Scalar.muli arg16 c1_i32_35
  let v23 : BitVec 32 := Scalar.addi c0_i32_36 v22
  let v24 : Index := Scalar.indexCast v23
  ![v24.toNat]
def k0_off9 (i : grid0.Coords) (k0_t3 : Fin k0_t3_loop.trips) : Fin 2 → Nat :=
  let arg1 : BitVec 32 := BitVec.ofNat 32 (i 1).val
  let c512_i32_0 : BitVec 32 := 512#32
  let v3 : BitVec 32 := Scalar.muli arg1 c512_i32_0
  let c0_i32_36 : BitVec 32 := 0#32
  let c0_i32_11 : BitVec 32 := 0#32
  let c1_i32_13 : BitVec 32 := 1#32
  let arg16 : BitVec 32 := Scf.iv c0_i32_11 c1_i32_13 k0_t3
  let c1_i32_35 : BitVec 32 := 1#32
  let v22 : BitVec 32 := Scalar.muli arg16 c1_i32_35
  let v23 : BitVec 32 := Scalar.addi c0_i32_36 v22
  let v27 : BitVec 32 := Scalar.addi v3 v23
  let c0_i32_37 : BitVec 32 := 0#32
  ![v27.toNat, 0]
def k0_off10 (v25 : BitVec 32) : Fin 2 → Nat :=
  let c500000_i32 : BitVec 32 := 500000#32
  let v26 : BitVec 32 := Scalar.addi v25 c500000_i32
  let c0_i32_38 : BitVec 32 := 0#32
  ![v26.toNat, 0]

def k0_chk2 (v25 : BitVec 32) : Prop :=
  (∀ a, (k0_off10 v25) a + S1x64.size a ≤ S1000000x64.size a)
theorem k0_off10_inb : ∀ (v25 : BitVec 32) (k0_hw2 : k0_chk2 v25), ∀ a, (k0_off10 v25) a + S1x64.size a ≤ S1000000x64.size a := fun v25 k0_hw2 => k0_hw2

@[reducible] def k0_t4_loop : Scf.Loop 32 :=
  let c0_i32_15 : BitVec 32 := 0#32
  let c512_i32_16 : BitVec 32 := 512#32
  let v11 : BitVec 32 := Scalar.addi c0_i32_15 c512_i32_16
  let c1_i32_17 : BitVec 32 := 1#32
  ⟨c0_i32_15, v11, c1_i32_17⟩
@[reducible] def k0_t5_loop : Scf.Loop 32 :=
  let c0_i32_23 : BitVec 32 := 0#32
  let c512_i32_24 : BitVec 32 := 512#32
  let v16 : BitVec 32 := Scalar.addi c0_i32_23 c512_i32_24
  let c1_i32_25 : BitVec 32 := 1#32
  ⟨c0_i32_23, v16, c1_i32_25⟩
def k0_off11 (k0_t5 : Fin k0_t5_loop.trips) : Fin 1 → Nat :=
  let c0_i32_36 : BitVec 32 := 0#32
  let c0_i32_23 : BitVec 32 := 0#32
  let c1_i32_25 : BitVec 32 := 1#32
  let arg16 : BitVec 32 := Scf.iv c0_i32_23 c1_i32_25 k0_t5
  let c1_i32_35 : BitVec 32 := 1#32
  let v22 : BitVec 32 := Scalar.muli arg16 c1_i32_35
  let v23 : BitVec 32 := Scalar.addi c0_i32_36 v22
  let v24 : Index := Scalar.indexCast v23
  ![v24.toNat]
def k0_off12 (i : grid0.Coords) (k0_t5 : Fin k0_t5_loop.trips) : Fin 2 → Nat :=
  let arg1 : BitVec 32 := BitVec.ofNat 32 (i 1).val
  let c512_i32_0 : BitVec 32 := 512#32
  let v3 : BitVec 32 := Scalar.muli arg1 c512_i32_0
  let c0_i32_36 : BitVec 32 := 0#32
  let c0_i32_23 : BitVec 32 := 0#32
  let c1_i32_25 : BitVec 32 := 1#32
  let arg16 : BitVec 32 := Scf.iv c0_i32_23 c1_i32_25 k0_t5
  let c1_i32_35 : BitVec 32 := 1#32
  let v22 : BitVec 32 := Scalar.muli arg16 c1_i32_35
  let v23 : BitVec 32 := Scalar.addi c0_i32_36 v22
  let v27 : BitVec 32 := Scalar.addi v3 v23
  let c0_i32_37 : BitVec 32 := 0#32
  ![v27.toNat, 0]
def k0_off13 (v25 : BitVec 32) : Fin 2 → Nat :=
  let c500000_i32 : BitVec 32 := 500000#32
  let v26 : BitVec 32 := Scalar.addi v25 c500000_i32
  let c0_i32_38 : BitVec 32 := 0#32
  ![v26.toNat, 0]

def k0_chk3 (v25 : BitVec 32) : Prop :=
  (∀ a, (k0_off13 v25) a + S1x64.size a ≤ S1000000x64.size a)
theorem k0_off13_inb : ∀ (v25 : BitVec 32) (k0_hw3 : k0_chk3 v25), ∀ a, (k0_off13 v25) a + S1x64.size a ≤ S1000000x64.size a := fun v25 k0_hw3 => k0_hw3

@[reducible] def k0_t6_loop : Scf.Loop 32 :=
  let c0_i32_27 : BitVec 32 := 0#32
  let c512_i32_28 : BitVec 32 := 512#32
  let v17 : BitVec 32 := Scalar.addi c0_i32_27 c512_i32_28
  let c1_i32_29 : BitVec 32 := 1#32
  ⟨c0_i32_27, v17, c1_i32_29⟩
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S16384 : Shape := ⟨1, ![16384]⟩
abbrev S1000000x64 : Shape := ⟨2, ![1000000, 64]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩

abbrev nBuf : Space → Nat
  | .hbm => 79
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S1000000x64, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x64, .f32⟩
  | .hbm, ⟨23, _⟩ => ⟨S16384x64, .i1⟩
  | .hbm, ⟨24, _⟩ => ⟨S_, .f32⟩
  | .hbm, ⟨25, _⟩ => ⟨S16384x64, .f32⟩
  | .hbm, ⟨26, _⟩ => ⟨S16384x64, .f32⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S16384x1, .i32⟩
  | .hbm, ⟨38, _⟩ => ⟨S1, .i32⟩
  | .hbm, ⟨39, _⟩ => ⟨S_, .i32⟩
  | .hbm, ⟨40, _⟩ => ⟨S16384x1, .i32⟩
  | .hbm, ⟨41, _⟩ => ⟨S16384x1, .i1⟩
  | .hbm, ⟨42, _⟩ => ⟨S1x1, .i32⟩
  | .hbm, ⟨43, _⟩ => ⟨S16384x1, .i32⟩
  | .hbm, ⟨44, _⟩ => ⟨S16384x1, .i1⟩
  | .hbm, ⟨45, _⟩ => ⟨S16384x1, .i1⟩
  | .hbm, ⟨46, _⟩ => ⟨S_, .i1⟩
  | .hbm, ⟨47, _⟩ => ⟨S16384, .i1⟩
  | .hbm, ⟨48, _⟩ => ⟨S16384x64, .f32⟩
  | .hbm, ⟨49, _⟩ => ⟨S16384x64, .i1⟩
  | .hbm, ⟨50, _⟩ => ⟨S_, .f32⟩
  | .hbm, ⟨51, _⟩ => ⟨S16384x64, .f32⟩
  | .hbm, ⟨52, _⟩ => ⟨S16384x64, .f32⟩
  | .hbm, ⟨53, _⟩ => ⟨S_, .i32⟩
  | .hbm, ⟨54, _⟩ => ⟨S16384, .i32⟩
  | .hbm, ⟨55, _⟩ => ⟨S16384, .i32⟩
  | .hbm, ⟨56, _⟩ => ⟨S_, .i32⟩
  | .hbm, ⟨57, _⟩ => ⟨S16384, .i32⟩
  | .hbm, ⟨58, _⟩ => ⟨S16384, .i1⟩
  | .hbm, ⟨59, _⟩ => ⟨S_, .i32⟩
  | .hbm, ⟨60, _⟩ => ⟨S16384, .i32⟩
  | .hbm, ⟨61, _⟩ => ⟨S16384, .i32⟩
  | .hbm, ⟨62, _⟩ => ⟨S16384, .i32⟩
  | .hbm, ⟨63, _⟩ => ⟨S16384x1, .i32⟩
  | .hbm, ⟨64, _⟩ => ⟨S1, .i32⟩
  | .hbm, ⟨65, _⟩ => ⟨S_, .i32⟩
  | .hbm, ⟨66, _⟩ => ⟨S16384x1, .i32⟩
  | .hbm, ⟨67, _⟩ => ⟨S16384x1, .i1⟩
  | .hbm, ⟨68, _⟩ => ⟨S1x1, .i32⟩
  | .hbm, ⟨69, _⟩ => ⟨S16384x1, .i32⟩
  | .hbm, ⟨70, _⟩ => ⟨S16384x1, .i1⟩
  | .hbm, ⟨71, _⟩ => ⟨S16384x1, .i1⟩
  | .hbm, ⟨72, _⟩ => ⟨S_, .i1⟩
  | .hbm, ⟨73, _⟩ => ⟨S16384, .i1⟩
  | .hbm, ⟨74, _⟩ => ⟨S16384x64, .f32⟩
  | .hbm, ⟨75, _⟩ => ⟨S16384x64, .i1⟩
  | .hbm, ⟨76, _⟩ => ⟨S_, .f32⟩
  | .hbm, ⟨77, _⟩ => ⟨S16384x64, .f32⟩
  | .hbm, ⟨78, _⟩ => ⟨S16384x64, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_c : Ref sig .tc := ⟨.hbm, 27, rfl⟩
abbrev main_v1 : Ref sig .tc := ⟨.hbm, 28, rfl⟩
abbrev main_v2 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v3 : Ref sig .tc := ⟨.hbm, 52, rfl⟩
abbrev main_c_0 : Ref sig .tc := ⟨.hbm, 53, rfl⟩
abbrev main_v4 : Ref sig .tc := ⟨.hbm, 54, rfl⟩
abbrev main_v5 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_cst : Ref sig .tc := ⟨.hbm, 76, rfl⟩
abbrev main_call2_v15 : Ref sig .tc := ⟨.hbm, 77, rfl⟩
abbrev main_v6 : Ref sig .tc := ⟨.hbm, 78, rfl⟩

abbrev nD : Nat := 1
abbrev τ : Topo := Topo.v7x

variable {F : FTy → Type} [FloatOps F]
-- ==== Proof.Setup.lean ====
/-
  What the proof of the kernel's run is stated over: the program as the launch theorem sees it, the resource algebra, the threads
  and buffers of one task (a SparseCore and a tile of it, both symbolic), and what the three results hold.

  The call runs 32 tasks, one per tile of two SparseCores. Task (c, w) answers for the 512 positions from `1024 * w + 512 * c` on:
  it brings its slice of an index array into its tile, on through a row of the SparseCore's shared scratch into its scalar memory,
  issues one copy per index of a table row into its block of the SparseCore's shared row scratch, waits for all of them, and copies
  the block down to the tile and out to the result. Three index arrays, one after another.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton
public import proofs.«01_k».proof.Proof.Gen.Pre_ids_in_range

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the program's threads: the tasks' body and the (absent) pipelines. -/
abbrev ΛP : Labels := Pipeline.Sig Λ₀ (Fin 0) fun p => (pcfgs (F := F) p).Adm
/-- The program's one SparseCore call. -/
abbrev K : SparseCore.Cfg τ sig (ΛP (F := F)) 1 := sc (F := F)
/-- What the labels run. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

/-- The launch's semaphores are distinct and none is scoped; no shared scratch is a task's own. -/
theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the launch's handshakes beside the counters of the copies -/

abbrev UH : Type := URounds (GSem nD τ sig) ℕ
abbrev UU : Type := UH × Counters
/-- The resources of the run. -/
abbrev RR (F : FTy → Type) : Type := MT nD τ sig (HIx 1) (Elt F) ℕ UU ℕ
abbrev EH : Emb UH (RR F) := embL
abbrev EC : UEmb Counters (RR F) := countersEmb

/-! ## One task: its SparseCore, its tile, its thread -/

abbrev cV (L : grid0.Coords) : Fin τ.nSC := (L 0).castLE hcore0
abbrev jV (L : grid0.Coords) : Fin τ.nSub := (L 1).castLE hsub0
/-- The thread that runs the task at grid point `L` of device `d`. -/
abbrev thr (d : Dev nD) (L : grid0.Coords) : Thread nD τ := V d (cV L) (jV L)

theorem lt_core (L : grid0.Coords) : (L 0).val < 2 := (L 0).isLt
theorem lt_tile (L : grid0.Coords) : (L 1).val < 16 := (L 1).isLt

/-- The first of the 512 positions the task answers for. -/
def base (L : grid0.Coords) : ℕ := 1024 * (L 1).val + 512 * (L 0).val
theorem base_le (L : grid0.Coords) : base L + 512 ≤ 16384 := by
  have h0 := lt_core L; have h1 := lt_tile L
  unfold base; omega

/-! ## What a lookup finds -/

/-- Row `n` of the table at column `j` (the last row, were `n` beyond it). -/
def cell (ft : S1000000x64.Idx → Elt F .f32) (n : ℕ) (j : Fin 64) : Elt F .f32 :=
  ft fun | 0 => (⟨min n 999999, by omega⟩ : Fin 1000000) | 1 => j

/-- Position `r` of an index array, and entry `k` of a task's part of it, as indices. -/
def pos (r : Fin 16384) : S16384.Idx := fun | 0 => r
def slot (k : Fin 512) : S512.Idx := fun | 0 => k

/-- The row that index word `v` names in the half of the table that starts at row `off`. -/
def rowOf (off v : BitVec 32) : ℕ := (v + off).toNat

/-- A whole lookup: position `r` of the result holds the table's row that entry `r` of the index array names. -/
def gathered (off : BitVec 32) (ft : S1000000x64.Idx → Elt F .f32) (fx : S16384.Idx → Elt F .i32) : S16384x64.Idx → Elt F .f32 :=
  fun x => cell ft (rowOf off (fx (pos (x 0)))) (x 1)

/-- The part of an index array the task reads: its 512 entries from `base L` on. -/
def mine (L : grid0.Coords) (fx : S16384.Idx → Elt F .i32) : S512.Idx → Elt F .i32 :=
  fun k => fx (pos ⟨base L + (k 0).val, by have := base_le L; have : (k 0).val < 512 := (k 0).isLt; omega⟩)

/-- The 512 rows the task finds for the index words `fi`. -/
def found (off : BitVec 32) (ft : S1000000x64.Idx → Elt F .f32) (fi : S512.Idx → Elt F .i32) : S512x64.Idx → Elt F .f32 :=
  fun x => cell ft (rowOf off (fi (slot (x 0)))) (x 1)

/-- Every index word is below 500000: a row of the table's half. -/
def InRange {s : Shape} (fi : s.Idx → Elt F .i32) : Prop := ∀ k, (fi k).toNat < 500000

theorem InRange.mine {fx : S16384.Idx → Elt F .i32} (h : InRange fx) (L : grid0.Coords) : InRange (mine L fx) := fun _ => h _

end Cert.Proof.Lookup

end
-- ==== Proof.Views.lean ====
/-
  The buffers of one task as it addresses them: which elements a slice covers, and what a copy between slices leaves.
-/
module

public import proofs.«01_k».proof.Proof.Setup

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

/-! ## The slices -/

/-- The index row of the task in the shared scratch, one row slot and the whole block of the shared row scratch. -/
def slotRow (L : grid0.Coords) (k : Fin k0_t1_loop.trips) : Memref sig .scVector .shared S1x64 .f32 :=
  (Memref.whole cc0_scratch3).slice (Rect.unit (s := S8192x64) (k0_off4 L k) S1x64.size (k0_off4_inb L k)) (fun _ => rfl)
def blockM (L : grid0.Coords) : Memref sig .scVector .shared S512x64 .f32 :=
  (Memref.whole cc0_scratch3).slice (Rect.unit (s := S8192x64) (k0_off6 L) S512x64.size (k0_off6_inb L)) (fun _ => rfl)
def idxRowM (L : grid0.Coords) : Memref sig .scVector .shared S512 .i32 :=
  ((Memref.whole cc0_scratch1).slice (Rect.unit (s := S16x512) (k0_off2 L) S1x512.size (k0_off2_inb L)) (fun _ => rfl)).squeeze S512 squeezes_S1x512_S512

theorem trips_eq : k0_t1_loop.trips = 512 := by decide +kernel

/-- The elements of rows `[lo, hi)` of the shared row scratch. -/
def rowsSet (lo hi : ℕ) : Finset S8192x64.Idx := Finset.univ.filter fun x => lo ≤ (x 0).val ∧ (x 0).val < hi
theorem mem_rowsSet {lo hi : ℕ} {x : S8192x64.Idx} : x ∈ rowsSet lo hi ↔ lo ≤ (x 0).val ∧ (x 0).val < hi := by
  simp [rowsSet]

theorem set_slotRow (L : grid0.Coords) (k : Fin k0_t1_loop.trips) :
    (slotRow L k).view.set = rowsSet (512 * (L 1).val + k.val) (512 * (L 1).val + k.val + 1) := by
  unfold slotRow
  refine (View.set_slice_whole _ _).trans (Finset.ext fun x => ?_)
  rw [Rect.mem_set_unit, mem_rowsSet, k0_off4_eq]
  have h1 : (x 1).val < 64 := (x 1).isLt
  constructor
  · intro H; exact H 0
  · intro H a; fin_cases a
    · exact H
    · show 0 ≤ (x 1).val ∧ (x 1).val < 0 + 64; omega

theorem set_blockM (L : grid0.Coords) :
    (blockM L).view.set = rowsSet (512 * (L 1).val) (512 * (L 1).val + 512) := by
  unfold blockM
  refine (View.set_slice_whole _ _).trans (Finset.ext fun x => ?_)
  rw [Rect.mem_set_unit, mem_rowsSet, k0_off6_eq]
  have h1 : (x 1).val < 64 := (x 1).isLt
  constructor
  · intro H; exact H 0
  · intro H a; fin_cases a
    · exact H
    · show 0 ≤ (x 1).val ∧ (x 1).val < 0 + 64; omega

/-- What the shared row scratch holds once the task's rows are in: row `512 * w + k` is the row that the task's index word `k` names. -/
def filled (L : grid0.Coords) (off : BitVec 32) (ft : S1000000x64.Idx → Elt F .f32) (fi : S512.Idx → Elt F .i32) : S8192x64.Idx → Elt F .f32 :=
  fun x => cell ft (rowOf off (fi (slot ⟨((x 0).val - 512 * (L 1).val) % 512, Nat.mod_lt _ (by omega)⟩))) (x 1)

end Cert.Proof.Lookup

end
-- ==== Proof.Body.lean ====
/-
  A task's program read as what it is: three lookups, one per index array, each in five stretches (`fetch` the indices, `issue` a copy
  per index, `drain` them, bring the rows `down` to the tile, `flush` them out to the result).
-/
module

public import proofs.«01_k».proof.Proof.Views

@[expose] public section

noncomputable section

namespace Cert.Proof.Lookup

open Cert.KernelIdeal Cert.KernelIdeal.Gen

open Idealize.ShloMosaic Idealize.SL.Sem

variable {F : FTy → Type} [FloatOps F]

/-- A program of the task at grid point `L`. -/
abbrev Task (F : FTy → Type) (L : grid0.Coords) : Type → Type _ :=
  Prog (TpuEff nD τ sig (Elt F) Λ₀ (.scVector ((L 0).castLE hcore0) ((L 1).castLE hsub0)))

/-- An index array, and a result, as the task addresses them. -/
abbrev IdxArr : Type := Memref sig .scVector .hbm S16384 .i32
abbrev ResArr : Type := Memref sig .scVector .hbm S16384x64 .f32

/-- The task's 512 entries of an index array, and its 512 rows of a result. -/
def mineM (L : grid0.Coords) (x : IdxArr) : Memref sig .scVector .hbm S512 .i32 :=
  x.slice (Rect.unit (s := S16384) (k0_off1 L) S512.size (k0_off1_inb L)) (fun _ => rfl)
def outM (L : grid0.Coords) (y : ResArr) : Memref sig .scVector .hbm S512x64 .f32 :=
  y.slice (Rect.unit (s := S16384x64) (k0_off7 L) S512x64.size (k0_off7_inb L)) (fun _ => rfl)

/-- The offsets of the table row that index word `v` names in the half that starts at `off`; the body's check that it is a row. -/
def rowOff (off v : BitVec 32) : Fin 2 → ℕ := ![(Scalar.addi v off).toNat, 0]
def RowOK (off v : BitVec 32) : Prop := ∀ a, (rowOff off v) a + S1x64.size a ≤ S1000000x64.size a
/-- The table row itself. -/
def tabRow (off v : BitVec 32) (h : RowOK off v) : Memref sig .scVector .hbm S1x64 .f32 :=
  (Memref.whole main_arg3_scv).slice (Rect.unit (s := S1000000x64) (rowOff off v) S1x64.size h) (fun _ => rfl)

/-- The indices' way in: array to tile, tile to the shared scratch, shared scratch to scalar memory. -/
def fetch (L : grid0.Coords) (x : IdxArr) (a b c : DmaSems sig S_) : Task F L PUnit := do
  Prog.lift (.enqueueDma (mineM L x) (.here (Memref.whole cc0_scratch0)) (.dma a.sem) (View.wordExact_bits rfl) (Memref.isWhole_whole _).wordExact ⟨Or.inl rfl, trivial⟩)
  Prog.lift (.waitDma2 a.sem (mineM L x) (Memref.whole cc0_scratch0) (View.wordExact_bits rfl) (Memref.isWhole_whole _).wordExact)
  Prog.lift (.enqueueDma (Memref.whole cc0_scratch0) (.here (idxRowM L)) (.dma b.sem) (Memref.isWhole_whole _).wordExact ((View.wordExact_bits rfl).reshape _ _) ⟨Or.inl rfl, trivial⟩)
  Prog.lift (.waitDma2 b.sem (Memref.whole cc0_scratch0) (idxRowM L) (Memref.isWhole_whole _).wordExact ((View.wordExact_bits rfl).reshape _ _))
  Prog.lift (.enqueueDma (idxRowM L) (.here (Memref.whole cc0_scratch2)) (.dma c.sem) ((View.wordExact_bits rfl).reshape _ _) (Memref.isWhole_whole _).wordExact ⟨Or.inl rfl, trivial⟩)
  Prog.lift (.waitDma2 c.sem (idxRowM L) (Memref.whole cc0_scratch2) ((View.wordExact_bits rfl).reshape _ _) (Memref.isWhole_whole _).wordExact)
  pure ⟨⟩

/-- One trip of the issue loop: index word `k` is read and checked, and the copy of the table row it names to row slot `k` issued. -/
def issueBody (L : grid0.Coords) (off : BitVec 32) (dec : ∀ v, Decidable (RowOK off v)) (k : Fin k0_t1_loop.trips) (_ : Unit) : Task F L Unit := do
  let v : Elt F .i32 ← smemLoad (Memref.whole cc0_scratch2) (Rect.unit (s := S512) (k0_off3 k) S1.size (k0_off3_inb k)) numel1_S1 rfl
  have hw : RowOK off v := (← Prog.lift (TpuEff.assume (RowOK off v) (dec v))).down
  Prog.lift (.enqueueDma (tabRow off v hw) (.here (slotRow L k)) (.dma cc0_scratch5.sem) (View.wordExact_bits rfl) (View.wordExact_bits rfl) ⟨Or.inl rfl, trivial⟩)
  pure ⟨⟩

/-- The loop's wait, at every trip for a copy of one row. -/
def waitSrc : Memref sig .scVector .hbm S1x64 .f32 :=
  (Memref.whole main_arg3_scv).slice (Rect.unit (s := S1000000x64) ![0, 0] S1x64.size inb_S1000000x64_S1x64_0_0) (fun _ => rfl)
def waitDst : Memref sig .scVector .shared S1x64 .f32 :=
  (Memref.whole cc0_scratch3).slice (Rect.unit (s := S8192x64) ![0, 0] S1x64.size inb_S8192x64_S1x64_0_0) (fun _ => rfl)
def drainBody (L : grid0.Coords) (_ : Fin k0_t1_loop.trips) (_ : Unit) : Task F L Unit := do
  Prog.lift (.waitDma2 cc0_scratch5.sem waitSrc waitDst (View.wordExact_bits rfl) (View.wordExact_bits rfl))
  pure ⟨⟩

/-- The rows' way to the tile and out to the result. -/
def down (L : grid0.Coords) (e : DmaSems sig S_) : Task F L PUnit := do
  Prog.lift (.enqueueDma (blockM L) (.here (Memref.whole cc0_scratch4)) (.dma e.sem) (View.wordExact_bits rfl) (Memref.isWhole_whole _).wordExact ⟨Or.inl rfl, trivial⟩)
  Prog.lift (.waitDma2 e.sem (blockM L) (Memref.whole cc0_scratch4) (View.wordExact_bits rfl) (Memref.isWhole_whole _).wordExact)
  pure ⟨⟩
def flush (L : grid0.Coords) (y : ResArr) : Task F L PUnit := do
  Prog.lift (.enqueueDma (Memref.whole cc0_scratch4) (.here (outM L y)) (.dma cc0_scratch6.sem) (Memref.isWhole_whole _).wordExact (View.wordExact_bits rfl) ⟨Or.inl rfl, trivial⟩)
  Prog.lift (.waitDma2 cc0_scratch6.sem (Memref.whole cc0_scratch4) (outM L y) (Memref.isWhole_whole _).wordExact (View.wordExact_bits rfl))
  pure ⟨⟩

/-- One lookup: the rows of the table's half at `off` that the task's entries of `x` name, into the task's rows of `y`. -/
def lookup (L : grid0.Coords) (x : IdxArr) (y : ResArr) (off : BitVec 32) (dec : ∀ v, Decidable (RowOK off v)) (a b c e : DmaSems sig S_) : Task F L PUnit := do
  fetch L x a b c
  Scf.Loop.for k0_t1_loop k0_t1_ok ⟨⟩ (issueBody L off dec)
  Scf.Loop.for k0_t1_loop k0_t1_ok ⟨⟩ (drainBody L)
  down L e
  flush L y

/-- The task's program on the call's operands and scratch. -/
def task (L : grid0.Coords) : Task F L PUnit :=
  cc0__body L (Memref.whole main_arg0_scv) (Memref.isWhole_whole _) (Memref.whole main_arg1_scv) (Memref.isWhole_whole _) (Memref.whole main_arg2_scv) (Memref.isWhole_whole _)
    (Memref.whole main_arg3_scv) (Memref.isWhole_whole _) (Memref.whole main_v0_0_scv) (Memref.isWhole_whole _) (Memref.whole main_v0_1_scv) (Memref.isWhole_whole _)
    (Memref.whole main_v0_2_scv) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    cc0_scratch5 cc0_scratch6 cc0_scoped0 cc0_scoped1 cc0_scoped2 cc0_scoped3 cc0_scoped4 cc0_scoped5 cc0_scoped6 cc0_scoped7 cc0_scoped8 cc0_scoped9 cc0_scoped10 cc0_scoped11

/-- The task is its three lookups: users in the table's first half, items and negative items in its second. -/
theorem task_eq (L : grid0.Coords) : task (F := F) L = (do
    lookup L (Memref.whole main_arg0_scv) (Memref.whole main_v0_0_scv) 0#32 k0_chk1.dec cc0_scoped0 cc0_scoped1 cc0_scoped2 cc0_scoped3
    lookup L (Memref.whole main_arg1_scv) (Memref.whole main_v0_1_scv) 500000#32 k0_chk2.dec cc0_scoped4 cc0_scoped5 cc0_scoped6 cc0_scoped7
    lookup L (Memref.whole main_arg2_scv) (Memref.whole main_v0_2_scv) 500000#32 k0_chk3.dec cc0_scoped8 cc0_scoped9 cc0_scoped10 cc0_scoped11) := by
  unfold task
  rw [cc0__body_eq_skeleton]
  unfold cc0__body_skel
  rw [k0_part1_eq_skeleton, k0_part2_eq_skeleton, k0_part3_eq_skeleton]
  unfold k0_part1_skel k0_part2_skel k0_part3_skel lookup fetch down flush
  simp only [bind_assoc, pure_bind]
  rfl

end Cert.Proof.Lookup

end
-- ==== Proof.Gather.lean ====
/-
  The two loops of a lookup: 512 copies of table rows into the task's row slots issued on one semaphore, then 512 waits.

  A batch (Lib/Batch.lean) of 512 deliveries, fixed before the first issue: delivery `k` is row slot `k` at the table row that index
  word `k` names. Nothing touches a row slot between its issue and the last wait. The table is read under a share, of which
  each issue lends one half and keeps the other: nobody asks for the lent shares again.
-/
module

public import proofs.«01_k».proof.Proof.Body

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- The units one row's copy credits. -/
abbrev unit : ℕ := (waitDst).view.dmaCredit

section

variable (d : Dev nD) (L : grid0.Coords)

/-- The shared row scratch, rows `[lo, hi)` of it, at contents `f`. -/
abbrev rowsAt (lo hi : ℕ) (f : S8192x64.Idx → Elt F .f32) : sProp 𝕄 :=
  (Memref.whole cc0_scratch3 : Memref sig .scVector .shared S8192x64 .f32).view.loc (thr d L) ↦[rowsSet (512 * (L 1).val + lo) (512 * (L 1).val + hi)]{fullShare} f
/-- The table under share `q`; the scalar memory's index words. -/
abbrev tabAt (q : PosShare TreeShare) (ft : S1000000x64.Idx → Elt F .f32) : sProp 𝕄 :=
  (Memref.whole main_arg3_scv : Memref sig .scVector .hbm S1000000x64 .f32).view.loc (thr d L) ↦{q} ft
abbrev wordsAt (fi : S512.Idx → Elt F .i32) : sProp 𝕄 :=
  (Memref.whole cc0_scratch2 : Memref sig .scVector .smem S512 .i32).view.loc (thr d L) ↦{fullShare} fi

/-- Delivery `k`. -/
abbrev deliv (off : BitVec 32) (ft : S1000000x64.Idx → Elt F .f32) (fi : S512.Idx → Elt F .i32) (k : Fin 512) : sProp 𝕄 :=
  rowsAt d L k.val (k.val + 1) (filled L off ft fi)

/-- The batch, `j` copies issued and `u` units waited for. -/
abbrev batch (off : BitVec 32) (ft : S1000000x64.Idx → Elt F .f32) (fi : S512.Idx → Elt F .i32) (j u : ℕ) : sProp 𝕄 :=
  Transfers.Batch (countersEmb (U := UU)) (thr d L) (.dma cc0_scratch5.sem) (default : HIx 1) unit (deliv d L off ft fi) j u

theorem rowsSet_sdiff (b k : ℕ) (hk : k < 512) : rowsSet (b + k) (b + 512) \ rowsSet (b + k) (b + (k + 1)) = rowsSet (b + (k + 1)) (b + 512) := by
  ext x; simp only [Finset.mem_sdiff, mem_rowsSet]; omega

/-- What a copy of table row into row slot `k` leaves there. -/
theorem copy_row [FloatOps F] (off v : BitVec 32) (hw : RowOK off v) (k : Fin k0_t1_loop.trips) (hk : k.val < 512) (ft : S1000000x64.Idx → Elt F .f32)
    (fd : S8192x64.Idx → Elt F .f32) (fi : S512.Idx → Elt F .i32) (hv : v = fi (slot ⟨k.val, hk⟩)) :
    ∀ x ∈ rowsSet (512 * (L 1).val + k.val) (512 * (L 1).val + (k.val + 1)),
      (slotRow L k).view.write (Elt F) fd ((tabRow off v hw).view.read (Elt F) ft) Finset.univ x = filled L off ft fi x := by
  intro x hx
  have hx' : x ∈ (slotRow L k).view.set := by rw [set_slotRow]; exact hx
  obtain ⟨y, -, hxy⟩ := Finset.mem_map.mp hx'
  have hy : (y 0).val = 0 := by have : (y 0).val < 1 := (y 0).isLt; omega
  have e0 : (x 0).val = 512 * (L 1).val + k.val := by
    rw [← hxy]
    show (k0_off4 L k) 0 + 1 * (y 0).val = _
    rw [k0_off4_eq, hy]; rfl
  have e1 : (x 1).val = (y 1).val := by
    rw [← hxy]
    show (k0_off4 L k) 1 + 1 * (y 1).val = _
    rw [k0_off4_eq]; show 0 + 1 * _ = _; omega
  have hr : rowOf off v + 1 ≤ 1000000 := hw 0
  have es : (⟨((x 0).val - 512 * (L 1).val) % 512, Nat.mod_lt _ (by omega)⟩ : Fin 512) = ⟨k.val, hk⟩ :=
    Fin.ext (by show _ % 512 = k.val; rw [e0]; omega)
  unfold filled cell
  rw [es, ← hv]
  rw [← hxy] at e1 ⊢
  refine (View.write_emb_of_mem _ _ (Finset.mem_univ y)).trans ?_
  show ft ((tabRow off v hw).view.emb y) = _
  refine congrArg ft (funext fun a => ?_)
  fin_cases a
  · refine Fin.ext ?_
    show rowOf off v + 1 * (y 0).val = min (rowOf off v) 999999
    rw [hy]; omega
  · refine Fin.ext ?_
    show 0 + 1 * (y 1).val = _
    rw [zero_add, one_mul, ← e1]

/-- Before trip `k` of the issue loop: `k` copies issued; row slots from `k` on and half of half … of the table's share in hand. -/
def issueAt (off : BitVec 32) (q : PosShare TreeShare) (ft : S1000000x64.Idx → Elt F .f32) (fi : S512.Idx → Elt F .i32) (fd : S8192x64.Idx → Elt F .f32)
    (k : ℕ) (_ : Unit) : sProp 𝕄 :=
  iprop(batch d L off ft fi k 0 ∗ rowsAt d L k 512 fd ∗ tabAt d L (Transfers.shareDrop q k) ft ∗ wordsAt d L fi)

theorem issue_step [FloatOps F] (off : BitVec 32) (dec : ∀ v, Decidable (RowOK off v)) (q : PosShare TreeShare) (ft : S1000000x64.Idx → Elt F .f32) (fi : S512.Idx → Elt F .i32)
    (fd : S8192x64.Idx → Elt F .f32) (hfi : ∀ k, RowOK off (fi k)) (k : Fin k0_t1_loop.trips) (acc : Unit) :
    issueAt d L off q ft fi fd k.val acc ⊢ wp frame (wpE (defs₀ (F := F)) 𝒱₀ (thr d L) none) Set.univ (issueBody L off dec k acc)
      (issueAt d L off q ft fi fd (k.val + 1)) := by
  have hk : k.val < 512 := trips_eq ▸ k.isLt
  unfold issueAt
  iintro ⟨HB, HR, HT, HW⟩
  sl_unfold [issueBody]
  sl_exec
  -- the word read is the index word; one half of the table's share and row slot `k` are the copy's
  have hv : issue_step.sl.r fi k = fi (slot ⟨k.val, hk⟩) := by
    unfold issue_step.sl.r
    refine congrArg fi (funext fun a => ?_)
    fin_cases a
    refine Fin.ext ?_
    show (k0_off3 k) 0 + 1 * 0 = k.val
    rw [k0_off3_eq]; rfl
  rw [show Transfers.shareDrop q (k.val + 1) = (Transfers.shareDrop q k.val).left from rfl]
  ihave HT' := (pointsTo_share (PosShare.mem_left_op_right (Transfers.shareDrop q k.val))).1 $$ HT
  icases HT' with ⟨HT, HL⟩
  ihave HL' := (pointsTo_split_subset (I := (tabRow off (issue_step.sl.r fi k) (hfi _)).view.set) (Finset.subset_univ _)).1 $$ HL
  icases HL' with ⟨HL, -⟩
  ihave HR' := (pointsTo_split_subset (I := rowsSet (512 * (L 1).val + k.val) (512 * (L 1).val + (k.val + 1))) (fun x hx => by
    rw [mem_rowsSet] at hx ⊢; omega)).1 $$ HR
  icases HR' with ⟨HS, HR⟩
  iapply (Transfers.wp_dmaBatch (countersEmb (U := UU)) 𝒱₀ (thr d L) none (default : HIx 1) unit (D := deliv d L off ft fi) rfl
    (set_slotRow L k).le hk (Nat.zero_le _) ?_) $$ [HL HS HB]
  · refine sep_elim_left.trans (Entails.of_eq (pointsTo_congr ?_))
    exact copy_row L off _ (hfi _) k hk ft fd fi hv
  · isplitl [HL]; · iexact HL
    isplitl [HS]; · iexact HS
    iexact HB
  iintro HB
  sl_step
  isplitl [HB]; · iexact HB
  isplitl [HR]
  · iapply (Entails.of_eq (congrArg (fun I => ((Memref.whole cc0_scratch3 : Memref sig .scVector .shared S8192x64 .f32).view.loc (thr d L) ↦[I]{fullShare} fd : sProp 𝕄))
      (rowsSet_sdiff (512 * (L 1).val) k.val hk)))
    iexact HR
  isplitl [HT]; · iexact HT
  iexact HW

end

end Cert.Proof.Lookup

end
-- ==== Proof.Drain.lean ====
/-
  The drain loop, and the two loops together: from the task's row slots, its index words and a share of the table to the slots
  filled with the rows that the index words name.
-/
module

public import proofs.«01_k».proof.Proof.Gather

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- The waits `W'` are those of `W` and waits on the task's own copies. -/
def Later (W W' : Waits sig (HIx 1)) : Prop := ∀ p ∈ W', p ∈ W ∨ p.2 = none
theorem Later.refl (W : Waits sig (HIx 1)) : Later W W := fun _ h => .inl h
theorem Later.insert {W W' : Waits sig (HIx 1)} (h : Later W W') (s : SemLoc sig) : Later W (insert (s, (default : HIx 1)) W') :=
  fun p hp => (Finset.mem_insert.mp hp).elim (fun e => .inr (e ▸ rfl)) (h p)
theorem Later.trans {W W' W'' : Waits sig (HIx 1)} (h : Later W W') (h' : Later W' W'') : Later W W'' :=
  fun p hp => (h' p hp).elim (h p) .inr

section

variable (d : Dev nD) (L : grid0.Coords)

/-- What the task owes, its waits those of `W` and later ones on its own copies. -/
abbrev owing (O : CellTallies nD τ sig (HIx 1)) (W : Waits sig (HIx 1)) : sProp 𝕄 := iprop(∃ W', ⌜Later W W'⌝ ∗ owes (thr d L) O W')

/-- Before trip `k` of the drain loop: `k` rows' units taken off the batch, or, after the last trip, the semaphore back at zero and
    every delivery. -/
def drainAt (off : BitVec 32) (ft : S1000000x64.Idx → Elt F .f32) (fi : S512.Idx → Elt F .i32) (O : CellTallies nD τ sig (HIx 1)) (W : Waits sig (HIx 1))
    (k : ℕ) (_ : Unit) : sProp 𝕄 :=
  iprop(Transfers.MayWaits (thr d L) (default : HIx 1) O ∗ owing d L O W
    ∗ (if k < 512 then batch d L off ft fi 512 (k * unit)
       else iprop(semVal (thr d L, SemLoc.dma cc0_scratch5.sem) 0 ∗ bigSep Finset.univ (deliv d L off ft fi))))

theorem drain_step [FloatOps F] (off : BitVec 32) (ft : S1000000x64.Idx → Elt F .f32) (fi : S512.Idx → Elt F .i32) (O : CellTallies nD τ sig (HIx 1))
    (W : Waits sig (HIx 1)) (k : Fin k0_t1_loop.trips) (acc : Unit) :
    drainAt d L off ft fi O W k.val acc ⊢ wp frame (wpE (defs₀ (F := F)) 𝒱₀ (thr d L) none) Set.univ (drainBody L k acc)
      (drainAt d L off ft fi O W (k.val + 1)) := by
  have hk : k.val < 512 := trips_eq ▸ k.isLt
  have hs : (k.val + 1) * unit = k.val * unit + unit := Nat.succ_mul _ _
  unfold drainAt
  simp only [if_pos hk]
  rcases Nat.lt_or_ge (k.val + 1) 512 with h1 | h1
  · simp only [if_pos h1, hs]
    iintro ⟨#Hmw, ⟨%W', %hW, HO⟩, HB⟩
    ihave Hw := (Transfers.MayWaits.elim (SemLoc.dma cc0_scratch5.sem)) $$ Hmw
    sl_unfold [drainBody]
    iapply (Transfers.wp_waitBatchO (countersEmb (U := UU)) 𝒱₀ (thr d L) none (default : HIx 1) (N := unit) rfl
      (by rw [← hs, Nat.mul_comm]; exact Nat.mul_lt_mul_of_pos_left h1 (by decide))) $$ [HB HO Hw]
    · isplitl [HB]; · iexact HB
      isplitl [HO]; · iexact HO
      iexact Hw
    iintro ⟨HB, HO⟩
    dsimp only [Prog.bind]
    sl_step
    isplitr; · iexact Hmw
    isplitl [HO]
    · iexists _; isplitr; swap; · iexact HO
      ipureintro; exact hW.insert _
    iexact HB
  · simp only [if_neg (Nat.not_lt.mpr h1)]
    iintro ⟨#Hmw, ⟨%W', %hW, HO⟩, HB⟩
    ihave Hw := (Transfers.MayWaits.elim (SemLoc.dma cc0_scratch5.sem)) $$ Hmw
    sl_unfold [drainBody]
    iapply (Transfers.wp_waitBatchLastO (countersEmb (U := UU)) 𝒱₀ (thr d L) none (default : HIx 1) (N := unit) rfl (by decide)
      (by rw [← hs, Nat.mul_comm, show k.val + 1 = 512 by omega])) $$ [HB HO Hw]
    · isplitl [HB]; · iexact HB
      isplitl [HO]; · iexact HO
      iexact Hw
    iintro ⟨HD, Hs, HO⟩
    dsimp only [Prog.bind]
    sl_step
    isplitr; · iexact Hmw
    isplitl [HO]
    · iexists _; isplitr; swap; · iexact HO
      ipureintro; exact hW.insert _
    isplitl [Hs]; · iexact Hs
    iexact HD

/-- All deliveries are the whole block. -/
theorem deliv_all (off : BitVec 32) (ft : S1000000x64.Idx → Elt F .f32) (fi : S512.Idx → Elt F .i32) :
    bigSep Finset.univ (deliv d L off ft fi) ⊢ (rowsAt d L 0 512 (filled L off ft fi) : sProp 𝕄) := by
  have hu : rowsSet (512 * (L 1).val + 0) (512 * (L 1).val + 512)
      = Finset.univ.biUnion fun k : Fin 512 => rowsSet (512 * (L 1).val + k.val) (512 * (L 1).val + (k.val + 1)) := by
    ext x
    simp only [Finset.mem_biUnion, Finset.mem_univ, true_and, mem_rowsSet]
    constructor
    · intro h; exact ⟨⟨(x 0).val - 512 * (L 1).val, by omega⟩, by show _ + (_ - _) ≤ _ ∧ _ < _ + ((_ - _) + 1); omega⟩
    · rintro ⟨k, hk⟩; have := k.isLt; omega
  show _ ⊢ ((Memref.whole cc0_scratch3 : Memref sig .scVector .shared S8192x64 .f32).view.loc (thr d L) ↦[_]{fullShare} _)
  rw [hu]
  refine Entails.of_eq (Eq.symm (pointsTo_biUnion Finset.univ _ ?_))
  intro i _ j _ hij
  refine Finset.disjoint_left.mpr fun x hi hj => hij (Fin.ext ?_)
  rw [mem_rowsSet] at hi hj; omega

/-- The two loops: the task's row slots hold the rows that its index words name, the semaphore is at zero again. -/
theorem gather_spec [FloatOps F] (off : BitVec 32) (dec : ∀ v, Decidable (RowOK off v)) (q : PosShare TreeShare) (ft : S1000000x64.Idx → Elt F .f32) (fi : S512.Idx → Elt F .i32)
    (fd : S8192x64.Idx → Elt F .f32) (hfi : ∀ k, RowOK off (fi k)) (O : CellTallies nD τ sig (HIx 1)) (W : Waits sig (HIx 1)) :
    iprop(Transfers.MayWaits (thr d L) (default : HIx 1) O ∗ owing d L O W ∗ semVal (thr d L, SemLoc.dma cc0_scratch5.sem) 0
        ∗ rowsAt d L 0 512 fd ∗ tabAt d L q ft ∗ wordsAt d L fi)
      ⊢ wp frame (wpE (defs₀ (F := F)) 𝒱₀ (thr d L) none) Set.univ
        (Scf.Loop.for k0_t1_loop k0_t1_ok ⟨⟩ (issueBody L off dec) >>= fun _ => Scf.Loop.for k0_t1_loop k0_t1_ok ⟨⟩ (drainBody L))
        (fun _ => iprop(owing d L O W ∗ semVal (thr d L, SemLoc.dma cc0_scratch5.sem) 0
          ∗ rowsAt d L 0 512 (filled L off ft fi) ∗ tabAt d L (Transfers.shareDrop q 512) ft ∗ wordsAt d L fi)) := by
  iintro ⟨#Hmw, HO, Hs, HR, HT, HW⟩
  imod (Transfers.batch_alloc' (Lvl := ℕ) (countersEmb (U := UU)) (thr d L) (default : HIx 1) unit (deliv d L off ft fi) (sm := .dma cc0_scratch5.sem) (E := Set.univ)) $$ Hs with HB
  sl_for (issueAt d L off q ft fi fd) $$ [HB HR HT HW]
  · intro k acc; exact issue_step d L off dec q ft fi fd hfi k acc
  · unfold issueAt
    isplitl [HB]; · iexact HB
    isplitl [HR]; · iexact HR
    isplitl [HT]; · iexact HT
    iexact HW
  iintro %acc HI
  ihave HI' := (show issueAt d L off q ft fi fd k0_t1_loop.trips acc ⊢ iprop(batch d L off ft fi 512 0 ∗ tabAt d L (Transfers.shareDrop q 512) ft ∗ wordsAt d L fi) from by
    rw [trips_eq]; unfold issueAt
    iintro ⟨HB, -, HT, HW⟩
    isplitl [HB]; · iexact HB
    isplitl [HT] <;> iassumption) $$ HI
  icases HI' with ⟨HB, HT, HW⟩
  sl_for (drainAt d L off ft fi O W) $$ [HO HB HT HW]
  · intro k acc; exact drain_step d L off ft fi O W k acc
  isplitl [HO HB]
  · unfold drainAt
    rw [if_pos (by decide), Nat.zero_mul]
    isplitr; · iexact Hmw
    isplitl [HO] <;> iassumption
  iintro %acc HD
  ihave HD' := (show drainAt d L off ft fi O W k0_t1_loop.trips acc ⊢ iprop(owing d L O W ∗ semVal (thr d L, SemLoc.dma cc0_scratch5.sem) 0 ∗ rowsAt d L 0 512 (filled L off ft fi)) from by
    rw [trips_eq]; unfold drainAt; rw [if_neg (Nat.lt_irrefl _)]
    iintro ⟨-, HO, Hs, HD⟩
    isplitl [HO]; · iexact HO
    isplitl [Hs]; · iexact Hs
    iapply (deliv_all d L off ft fi); iexact HD) $$ HD
  icases HD' with ⟨HO, Hs, HR⟩
  isplitl [HO]; · iexact HO
  isplitl [Hs]; · iexact Hs
  isplitl [HR]; · iexact HR
  isplitl [HT] <;> iassumption

end

end Cert.Proof.Lookup

end
-- ==== Proof.Moves.lean ====
/-
  The copies around a lookup's loops: the indices' way in (`fetch`), the rows' way to the tile (`down`) and out (`flush`).
-/
module

public import proofs.«01_k».proof.Proof.Drain

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- Writing all of a view leaves it reading what was written. -/
theorem read_writes_whole {κ : Kind} {sp : Space} {s : Shape} {e : EltTy} (v : View sig κ sp s e) (f : v.ty.Contents (Elt F)) (w : s.Idx → Elt F e) :
    v.read (Elt F) (v.writes (Elt F) f [⟨Rect.whole s, w⟩]) = w := by
  refine funext fun z => ?_
  have hz : (Rect.whole s).emb z = z := funext fun a => Fin.ext (by show 0 + 1 * (z a).val = _; omega)
  have := View.read_writes_cons_emb v f (Rect.whole s) w [] z
  rwa [hz] at this

/-- Contents that read alike through a view agree on its elements. -/
theorem eq_on_of_read {κ : Kind} {sp : Space} {s : Shape} {e : EltTy} (v : View sig κ sp s e) (f g : v.ty.Contents (Elt F))
    (h : v.read (Elt F) f = v.read (Elt F) g) : ∀ i ∈ v.set, f i = g i := by
  intro i hi
  obtain ⟨z, -, rfl⟩ := Finset.mem_map.mp hi
  exact (cast_inj _).mp (congrFun h z)

section

variable (d : Dev nD) (L : grid0.Coords)

/-- A copy semaphore of the task at zero. -/
abbrev zero (s : DmaSem sig) : sProp 𝕄 := semVal (thr d L, SemLoc.dma s) 0
/-- The tile's index scratch and row scratch; the task's row of the shared index scratch. -/
abbrev tileIdxAt (f : S512.Idx → Elt F .i32) : sProp 𝕄 :=
  (Memref.whole cc0_scratch0 : Memref sig .scVector .vmem S512 .i32).view.loc (thr d L) ↦{fullShare} f
abbrev tileRowsAt (f : S512x64.Idx → Elt F .f32) : sProp 𝕄 :=
  (Memref.whole cc0_scratch4 : Memref sig .scVector .vmem S512x64 .f32).view.loc (thr d L) ↦{fullShare} f
abbrev idxRowAt (f : S16x512.Idx → Elt F .i32) : sProp 𝕄 :=
  (idxRowM L).view.loc (thr d L) ↦[(idxRowM L).view.set]{fullShare} f

theorem fetch_spec [FloatOps F] (x : IdxArr) (a b c : DmaSems sig S_) (q : PosShare TreeShare) (fx : x.view.ty.Contents (Elt F))
    (O : CellTallies nD τ sig (HIx 1)) (W : Waits sig (HIx 1)) :
    iprop(Transfers.MayWaits (thr d L) (default : HIx 1) O ∗ owing d L O W ∗ zero d L a.sem ∗ zero d L b.sem ∗ zero d L c.sem
        ∗ (x.view.loc (thr d L) ↦{q} fx) ∗ (∃ f, tileIdxAt d L f) ∗ (∃ f, idxRowAt d L f) ∗ (∃ f, wordsAt d L f))
      ⊢ wp frame (wpE (defs₀ (F := F)) 𝒱₀ (thr d L) none) Set.univ (fetch L x a b c)
        (fun _ => iprop(owing d L O W ∗ zero d L a.sem ∗ zero d L b.sem ∗ zero d L c.sem
          ∗ (∃ f, tileIdxAt d L f) ∗ (∃ f, idxRowAt d L f) ∗ wordsAt d L (mine L (x.view.read (Elt F) fx)))) := by
  iintro ⟨#Hmw, ⟨%W', %hW, HO⟩, Ha, Hb, Hc, Hx, ⟨%f0, H0⟩, ⟨%f1, H1⟩, ⟨%f2, H2⟩⟩
  sl_unfold [fetch]
  sl_exec
  have hv : View.write (Elt F) (Memref.whole cc0_scratch2).view f2 (fetch_spec.sl.dma0_2 L x fx f0 f1) Finset.univ = mine L (x.view.read (Elt F) fx) := by
    refine (View.write_whole_univ _ _ _).trans ?_
    unfold fetch_spec.sl.dma0_2 fetch_spec.sl.dma0_1 fetch_spec.sl.dma0
    refine (read_writes_whole (idxRowM L).view f1 _).trans ?_
    refine (View.read_write_univ (v := (Memref.whole cc0_scratch0 : Memref sig .scVector .vmem S512 .i32).view) f0 _).trans ?_
    refine funext fun k => ?_
    show x.view.read (Elt F) fx ((Rect.unit (s := S16384) (k0_off1 L) S512.size (k0_off1_inb L)).emb k) = _
    refine congrArg (x.view.read (Elt F) fx) (funext fun a => ?_)
    fin_cases a
    refine Fin.ext ?_
    show (k0_off1 L) 0 + 1 * (k 0).val = base L + (k 0).val
    rw [k0_off1_eq, one_mul]; rfl
  rw [hv]
  sl_step
  isplitl [HO]
  · iexists _; isplitr; swap; · iexact HO
    ipureintro; exact ((hW.insert _).insert _).insert _
  isplitl [Ha]; · iexact Ha
  isplitl [Hb]; · iexact Hb
  isplitl [Hc]; · iexact Hc
  isplitl [H0]; · iexists _; iexact H0
  isplitl [H1]; · iexists _; iexact H1
  iexact H2

theorem down_spec [FloatOps F] (e : DmaSems sig S_) (f : S8192x64.Idx → Elt F .f32) (fo : S512x64.Idx → Elt F .f32)
    (hf : (blockM L).view.read (Elt F) f = fo) (O : CellTallies nD τ sig (HIx 1)) (W : Waits sig (HIx 1)) :
    iprop(Transfers.MayWaits (thr d L) (default : HIx 1) O ∗ owing d L O W ∗ zero d L e.sem
        ∗ rowsAt d L 0 512 f ∗ (∃ f, tileRowsAt d L f))
      ⊢ wp frame (wpE (defs₀ (F := F)) 𝒱₀ (thr d L) none) Set.univ (down L e)
        (fun _ => iprop(owing d L O W ∗ zero d L e.sem ∗ rowsAt d L 0 512 f ∗ tileRowsAt d L fo)) := by
  have hs : rowsSet (512 * (L 1).val + 0) (512 * (L 1).val + 512) = (blockM L).view.set := (set_blockM L).symm
  have hb : (rowsAt d L 0 512 f : sProp 𝕄) = ((blockM L).view.loc (thr d L) ↦[(blockM L).view.set]{fullShare} f) := by
    unfold rowsAt; rw [hs]; rfl
  rw [hb]
  iintro ⟨#Hmw, ⟨%W', %hW, HO⟩, He, HR, ⟨%f4, H4⟩⟩
  sl_unfold [down]
  sl_exec
  have hv : View.write (Elt F) (Memref.whole cc0_scratch4).view f4 (down_spec.sl.dma0 L f) Finset.univ = fo := by
    refine (View.write_whole_univ _ _ _).trans ?_
    unfold down_spec.sl.dma0
    exact hf
  rw [hv]
  sl_step
  isplitl [HO]
  · iexists _; isplitr; swap; · iexact HO
    ipureintro; exact hW.insert _
  isplitl [He]; · iexact He
  isplitl [HR]; · iexact HR
  iexact H4

theorem flush_spec [FloatOps F] (y : ResArr) (fy g : y.view.ty.Contents (Elt F)) (fo : S512x64.Idx → Elt F .f32)
    (hg : (outM L y).view.read (Elt F) g = fo) (O : CellTallies nD τ sig (HIx 1)) (W : Waits sig (HIx 1)) :
    iprop(Transfers.MayWaits (thr d L) (default : HIx 1) O ∗ owing d L O W ∗ zero d L cc0_scratch6.sem
        ∗ tileRowsAt d L fo ∗ ((outM L y).view.loc (thr d L) ↦[(outM L y).view.set]{fullShare} fy))
      ⊢ wp frame (wpE (defs₀ (F := F)) 𝒱₀ (thr d L) none) Set.univ (flush L y)
        (fun _ => iprop(owing d L O W ∗ zero d L cc0_scratch6.sem ∗ (∃ f, tileRowsAt d L f)
          ∗ ((outM L y).view.loc (thr d L) ↦[(outM L y).view.set]{fullShare} g))) := by
  iintro ⟨#Hmw, ⟨%W', %hW, HO⟩, He, H4, HY⟩
  sl_unfold [flush]
  sl_exec
  have hv : ∀ i ∈ (outM L y).view.set, (outM L y).view.writes (Elt F) fy [⟨Rect.whole S512x64, flush_spec.sl.dma0 fo⟩] i = g i :=
    eq_on_of_read _ _ _ ((read_writes_whole _ _ _).trans hg.symm)
  ihave HY' := (Entails.of_eq (pointsTo_congr hv)) $$ HY
  sl_step
  isplitl [HO]
  · iexists _; isplitr; swap; · iexact HO
    ipureintro; exact hW.insert _
  isplitl [He]; · iexact He
  isplitl [H4]; · iexists _; iexact H4
  iexact HY'

end

end Cert.Proof.Lookup

end
-- ==== Proof.Run.lean ====
/-
  One lookup, and the task: three of them.
-/
module

public import proofs.«01_k».proof.Proof.Moves

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

section

variable (d : Dev nD) (L : grid0.Coords)

/-- A word below 500000 names a row of the table, whichever half it is looked up in. -/
theorem rowOK_of_lt {off v : BitVec 32} (ho : off = 0#32 ∨ off = 500000#32) (hv : v.toNat < 500000) : RowOK off v := by
  have h : (Scalar.addi v off).toNat + 1 ≤ 1000000 := by
    show (v + off).toNat + 1 ≤ _
    rcases ho with rfl | rfl <;> rw [BitVec.toNat_add] <;> simp <;> omega
  intro a; fin_cases a
  · exact h
  · show 0 + 64 ≤ 64; omega

/-- The task's rows in the shared scratch, read as a block. -/
theorem read_filled (off : BitVec 32) (ft : S1000000x64.Idx → Elt F .f32) (fi : S512.Idx → Elt F .i32) :
    (blockM L).view.read (Elt F) (filled L off ft fi) = found off ft fi := by
  refine funext fun z => ?_
  show filled L off ft fi ((blockM L).view.emb z) = _
  have h0 : (z 0).val < 512 := (z 0).isLt
  have e0 : ∀ x : S8192x64.Idx, x = (blockM L).view.emb z → (x 0).val = 512 * (L 1).val + (z 0).val ∧ (x 1).val = (z 1).val := by
    rintro x rfl
    constructor
    · show (k0_off6 L) 0 + 1 * (z 0).val = _
      rw [k0_off6_eq, one_mul]; rfl
    · show (k0_off6 L) 1 + 1 * (z 1).val = _
      rw [k0_off6_eq, one_mul]; show 0 + _ = _; omega
  obtain ⟨x, hx⟩ : ∃ x : S8192x64.Idx, x = (blockM L).view.emb z := ⟨_, rfl⟩
  obtain ⟨ea, eb⟩ := e0 x hx
  show filled L off ft fi ((blockM L).view.emb z) = _
  refine (congrArg (filled L off ft fi) hx).symm.trans ?_
  unfold filled found
  have es : (⟨((x 0).val - 512 * (L 1).val) % 512, Nat.mod_lt _ (by omega)⟩ : Fin 512) = z 0 :=
    Fin.ext (by show _ % 512 = _; rw [ea]; omega)
  rw [es, show x 1 = z 1 from Fin.ext eb]

/-- The task's rows of a whole lookup are what it finds for its own index words. -/
theorem read_gathered (y : ResArr) (g : y.view.ty.Contents (Elt F)) (off : BitVec 32) (ft : S1000000x64.Idx → Elt F .f32) (fx : S16384.Idx → Elt F .i32)
    (hg : y.view.read (Elt F) g = gathered off ft fx) : (outM L y).view.read (Elt F) g = found off ft (mine L fx) := by
  refine funext fun z => ?_
  show y.view.read (Elt F) g ((Rect.unit (s := S16384x64) (k0_off7 L) S512x64.size (k0_off7_inb L)).emb z) = _
  rw [hg]
  obtain ⟨x, hx⟩ : ∃ x : S16384x64.Idx, x = (Rect.unit (s := S16384x64) (k0_off7 L) S512x64.size (k0_off7_inb L)).emb z := ⟨_, rfl⟩
  have ea : (x 0).val = base L + (z 0).val := by
    rw [hx]; show (k0_off7 L) 0 + 1 * (z 0).val = _
    rw [k0_off7_eq, one_mul]; rfl
  have eb : (x 1).val = (z 1).val := by
    rw [hx]; show (k0_off7 L) 1 + 1 * (z 1).val = _
    rw [k0_off7_eq, one_mul]; show 0 + _ = _; omega
  rw [← hx]
  unfold gathered found mine
  rw [show x 1 = z 1 from Fin.ext eb]
  refine congrArg (fun i => cell ft (rowOf off (fx i)) (z 1)) (funext fun a => ?_)
  fin_cases a
  exact Fin.ext ea

/-- What a lookup needs of the task's own buffers and semaphores, and leaves as it found them (the buffers at some contents). -/
abbrev scratch : sProp 𝕄 :=
  iprop(zero d L cc0_scratch5.sem ∗ zero d L cc0_scratch6.sem ∗ (∃ f, tileIdxAt d L f) ∗ (∃ f, idxRowAt d L f) ∗ (∃ f, wordsAt d L f)
    ∗ (∃ f, rowsAt d L 0 512 f) ∗ (∃ f, tileRowsAt d L f))

/-- ONE LOOKUP: from shares of the index array and of the table, the task's rows of the result come to hold the rows that its
    entries of the index array name. -/
theorem lookup_spec [FloatOps F] (x : IdxArr) (y : ResArr) (off : BitVec 32) (dec : ∀ v, Decidable (RowOK off v)) (a b c e : DmaSems sig S_)
    (ho : off = 0#32 ∨ off = 500000#32) (qx q : PosShare TreeShare) (fx : x.view.ty.Contents (Elt F)) (ft : S1000000x64.Idx → Elt F .f32)
    (fy g : y.view.ty.Contents (Elt F)) (hr : InRange (x.view.read (Elt F) fx)) (hg : y.view.read (Elt F) g = gathered off ft (x.view.read (Elt F) fx))
    (O : CellTallies nD τ sig (HIx 1)) (W : Waits sig (HIx 1)) :
    iprop(Transfers.MayWaits (thr d L) (default : HIx 1) O ∗ owing d L O W ∗ scratch d L ∗ (zero d L a.sem ∗ zero d L b.sem ∗ zero d L c.sem ∗ zero d L e.sem)
        ∗ (x.view.loc (thr d L) ↦{qx} fx) ∗ tabAt d L q ft ∗ ((outM L y).view.loc (thr d L) ↦[(outM L y).view.set]{fullShare} fy))
      ⊢ wp frame (wpE (defs₀ (F := F)) 𝒱₀ (thr d L) none) Set.univ (lookup L x y off dec a b c e)
        (fun _ => iprop(owing d L O W ∗ scratch d L ∗ (zero d L a.sem ∗ zero d L b.sem ∗ zero d L c.sem ∗ zero d L e.sem)
          ∗ tabAt d L (Transfers.shareDrop q 512) ft ∗ ((outM L y).view.loc (thr d L) ↦[(outM L y).view.set]{fullShare} g))) := by
  have hfi : ∀ k, RowOK off (mine L (x.view.read (Elt F) fx) k) := fun k => rowOK_of_lt ho (hr.mine L k)
  have hl : (lookup L x y off dec a b c e : Task F L PUnit) = (fetch L x a b c >>= fun _ =>
      (Scf.Loop.for k0_t1_loop k0_t1_ok ⟨⟩ (issueBody L off dec) >>= fun _ => Scf.Loop.for k0_t1_loop k0_t1_ok ⟨⟩ (drainBody L)) >>= fun _ =>
      down L e >>= fun _ => flush L y) := by
    unfold lookup; simp only [bind_assoc]
  rw [hl]
  iintro ⟨#Hmw, HO, ⟨H5, H6, H0, H1, H2, ⟨%fd, H3⟩, H4⟩, ⟨Ha, Hb, Hc, He⟩, Hx, Ht, Hy⟩
  rw [wp_bind]
  iapply (wp_wand_r frame (wpE (defs₀ (F := F)) 𝒱₀ (thr d L) none) Set.univ)
  isplitl [HO Ha Hb Hc Hx H0 H1 H2]
  · iapply (fetch_spec d L x a b c qx fx O W)
    isplitr; · iexact Hmw
    isplitl [HO]; · iexact HO
    isplitl [Ha]; · iexact Ha
    isplitl [Hb]; · iexact Hb
    isplitl [Hc]; · iexact Hc
    isplitl [Hx]; · iexact Hx
    isplitl [H0]; · iexact H0
    isplitl [H1]; · iexact H1
    iexact H2
  iintro %_ ⟨HO, Ha, Hb, Hc, H0, H1, H2⟩
  rw [wp_bind]
  iapply (wp_wand_r frame (wpE (defs₀ (F := F)) 𝒱₀ (thr d L) none) Set.univ)
  isplitl [HO H5 H3 Ht H2]
  · iapply (gather_spec d L off dec q ft _ fd hfi O W)
    isplitr; · iexact Hmw
    isplitl [HO]; · iexact HO
    isplitl [H5]; · iexact H5
    isplitl [H3]; · iexact H3
    isplitl [Ht]; · iexact Ht
    iexact H2
  iintro %_ ⟨HO, H5, H3, Ht, H2⟩
  rw [wp_bind]
  iapply (wp_wand_r frame (wpE (defs₀ (F := F)) 𝒱₀ (thr d L) none) Set.univ)
  isplitl [HO He H3 H4]
  · iapply (down_spec d L e _ _ (read_filled L off ft _) O W)
    isplitr; · iexact Hmw
    isplitl [HO]; · iexact HO
    isplitl [He]; · iexact He
    isplitl [H3]; · iexact H3
    iexact H4
  iintro %_ ⟨HO, He, H3, H4⟩
  iapply (wp_wand_r frame (wpE (defs₀ (F := F)) 𝒱₀ (thr d L) none) Set.univ)
  isplitl [HO H6 H4 Hy]
  · iapply (flush_spec d L y fy g _ (read_gathered L y g off ft _ hg) O W)
    isplitr; · iexact Hmw
    isplitl [HO]; · iexact HO
    isplitl [H6]; · iexact H6
    isplitl [H4]; · iexact H4
    iexact Hy
  iintro %_ ⟨HO, H6, H4, Hy⟩
  isplitl [HO]; · iexact HO
  isplitl [H5 H6 H0 H1 H2 H3 H4]
  · isplitl [H5]; · iexact H5
    isplitl [H6]; · iexact H6
    isplitl [H0]; · iexact H0
    isplitl [H1]; · iexact H1
    isplitl [H2]; · iexists _; iexact H2
    isplitl [H3]; · iexists _; iexact H3
    iexact H4
  isplitl [Ha Hb Hc He]
  · isplitl [Ha]; · iexact Ha
    isplitl [Hb]; · iexact Hb
    isplitl [Hc]; · iexact Hc
    iexact He
  isplitl [Ht]; · iexact Ht
  iexact Hy

end

end Cert.Proof.Lookup

end
-- ==== Proof.Task.lean ====
/-
  The task as the launch wants it: what a tile is handed, what it hands back, and its run in between.
-/
module

public import proofs.«01_k».proof.Proof.Run

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Rounds

variable {F : FTy → Type}

local notation "𝕄" => MT nD τ sig (HIx 1) (Elt F) ℕ UU ℕ

/-! ## The arrays and the shared scratch -/

abbrev x0Loc (d : Dev nD) : Loc nD τ sig := (SparseCore.T d).loc main_arg0
abbrev x1Loc (d : Dev nD) : Loc nD τ sig := (SparseCore.T d).loc main_arg1
abbrev x2Loc (d : Dev nD) : Loc nD τ sig := (SparseCore.T d).loc main_arg2
abbrev tLoc (d : Dev nD) : Loc nD τ sig := (SparseCore.T d).loc main_arg3
abbrev y0Loc (d : Dev nD) : Loc nD τ sig := (SparseCore.T d).loc main_v0_0
abbrev y1Loc (d : Dev nD) : Loc nD τ sig := (SparseCore.T d).loc main_v0_1
abbrev y2Loc (d : Dev nD) : Loc nD τ sig := (SparseCore.T d).loc main_v0_2

/-- The shared index scratch and row scratch of SparseCore `c`. -/
abbrev shIdx (c : Fin τ.nSC) : DevRef τ sig := ⟨.shared, ⟨0, by decide⟩, c⟩
abbrev shRow (c : Fin τ.nSC) : DevRef τ sig := ⟨.shared, ⟨1, by decide⟩, c⟩
abbrev shIdxLoc (d : Dev nD) (c : Fin τ.nSC) : Loc nD τ sig := (d, shIdx c)
abbrev shRowLoc (d : Dev nD) (c : Fin τ.nSC) : Loc nD τ sig := (d, shRow c)

/-- The rows of a result that the task on tile `i` of SparseCore `c` answers for; its row of the shared index scratch. -/
def outSet (c : Fin 2) (i : Fin 16) : Finset S16384x64.Idx :=
  Finset.univ.filter fun x => 1024 * i.val + 512 * c.val ≤ (x 0).val ∧ (x 0).val < 1024 * i.val + 512 * c.val + 512
def idxSet (i : Fin 16) : Finset S16x512.Idx := Finset.univ.filter fun x => (x 0).val = i.val

theorem mem_outSet {c : Fin 2} {i : Fin 16} {x : S16384x64.Idx} :
    x ∈ outSet c i ↔ 1024 * i.val + 512 * c.val ≤ (x 0).val ∧ (x 0).val < 1024 * i.val + 512 * c.val + 512 := by simp [outSet]
theorem mem_idxSet {i : Fin 16} {x : S16x512.Idx} : x ∈ idxSet i ↔ (x 0).val = i.val := by simp [idxSet]

abbrev cL (L : grid0.Coords) : Fin 2 := ⟨(L 0).val, lt_core L⟩
abbrev iL (L : grid0.Coords) : Fin 16 := ⟨(L 1).val, lt_tile L⟩

theorem outRect (L : grid0.Coords) : (Rect.unit (s := S16384x64) (k0_off7 L) S512x64.size (k0_off7_inb L)).set = outSet (cL L) (iL L) := by
  refine Finset.ext fun x => ?_
  rw [Rect.mem_set_unit, mem_outSet, k0_off7_eq]
  have h1 : (x 1).val < 64 := (x 1).isLt
  constructor
  · intro H; exact H 0
  · intro H a; fin_cases a
    · exact H
    · show 0 ≤ (x 1).val ∧ (x 1).val < 0 + 64; omega

theorem set_out0 (L : grid0.Coords) : (outM L (Memref.whole main_v0_0_scv)).view.set = outSet (cL L) (iL L) := (View.set_slice_whole _ _).trans (outRect L)
theorem set_out1 (L : grid0.Coords) : (outM L (Memref.whole main_v0_1_scv)).view.set = outSet (cL L) (iL L) := (View.set_slice_whole _ _).trans (outRect L)
theorem set_out2 (L : grid0.Coords) : (outM L (Memref.whole main_v0_2_scv)).view.set = outSet (cL L) (iL L) := (View.set_slice_whole _ _).trans (outRect L)

theorem set_idxRowM (L : grid0.Coords) : (idxRowM L).view.set = idxSet (iL L) := by
  unfold idxRowM
  refine (View.set_reshape _ _).trans ((View.set_slice_whole _ _).trans (Finset.ext fun x => ?_))
  rw [Rect.mem_set_unit, mem_idxSet, k0_off2_eq]
  have h1 : (x 1).val < 512 := (x 1).isLt
  constructor
  · intro H; have h0 : (L 1).val ≤ (x 0).val ∧ (x 0).val < (L 1).val + 1 := H 0
    show (x 0).val = (L 1).val; omega
  · intro H a; fin_cases a
    · show (L 1).val ≤ (x 0).val ∧ (x 0).val < (L 1).val + 1
      have : (x 0).val = (L 1).val := H
      omega
    · show 0 ≤ (x 1).val ∧ (x 1).val < 0 + 512; omega

section

variable (m : (ℓ : Loc nD τ sig) → Buf (Elt F) ℓ)

/-- What the call leaves in the three results: the users' rows of the table's first half, the items' and the negative items' of its
    second. -/
def G0 (d : Dev nD) : S16384x64.Idx → Elt F .f32 := gathered 0#32 (m (tLoc d)) (m (x0Loc d))
def G1 (d : Dev nD) : S16384x64.Idx → Elt F .f32 := gathered 500000#32 (m (tLoc d)) (m (x1Loc d))
def G2 (d : Dev nD) : S16384x64.Idx → Elt F .f32 := gathered 500000#32 (m (tLoc d)) (m (x2Loc d))

/-- The arguments under share `q`. -/
abbrev argsAt (d : Dev nD) (q : PosShare TreeShare) : sProp 𝕄 :=
  iprop((x0Loc d ↦{q} m (x0Loc d)) ∗ (x1Loc d ↦{q} m (x1Loc d)) ∗ (x2Loc d ↦{q} m (x2Loc d)) ∗ (tLoc d ↦{q} m (tLoc d)))
/-- The elements `I` of the three results. -/
abbrev outsAt (d : Dev nD) (I : Finset S16384x64.Idx) (f0 f1 f2 : S16384x64.Idx → Elt F .f32) : sProp 𝕄 :=
  iprop((y0Loc d ↦[I]{fullShare} f0) ∗ (y1Loc d ↦[I]{fullShare} f1) ∗ (y2Loc d ↦[I]{fullShare} f2))
/-- Tile `i`'s parts of the shared scratch of SparseCore `c`, at some contents. -/
abbrev sharedAt (d : Dev nD) (c : Fin τ.nSC) (i : Fin 16) : sProp 𝕄 :=
  iprop((∃ f, shIdxLoc d c ↦[idxSet i]{fullShare} f) ∗ (∃ f, shRowLoc d c ↦[rowsSet (512 * i.val) (512 * i.val + 512)]{fullShare} f))

/-- Every index word is below 500000. -/
def PreOK : Prop := ∀ d : Dev nD, InRange (m (x0Loc d)) ∧ InRange (m (x1Loc d)) ∧ InRange (m (x2Loc d))

end

section

variable (m : (ℓ : Loc nD τ sig) → Buf (Elt F) ℓ) (d : Dev nD) (L : grid0.Coords)

/-- The cell of a copy semaphore of a tile. -/
def dmaCell : DmaSem sig ↪ GSem nD τ sig := ⟨fun s => (thr d L, SemLoc.dma s), fun _ _ h => SemLoc.dma.inj (Prod.mk.inj h).2⟩

/-- A tile's copy semaphores. -/
theorem ownSems0_V : (ownSems0 (thr d L) : sProp 𝕄)
    = iprop((zero d L cc0_scratch5.sem ∗ zero d L cc0_scratch6.sem
        ∗ zero d L cc0_scoped0.sem ∗ zero d L cc0_scoped1.sem ∗ zero d L cc0_scoped2.sem ∗ zero d L cc0_scoped3.sem
        ∗ zero d L cc0_scoped4.sem ∗ zero d L cc0_scoped5.sem ∗ zero d L cc0_scoped6.sem ∗ zero d L cc0_scoped7.sem
        ∗ zero d L cc0_scoped8.sem ∗ zero d L cc0_scoped9.sem ∗ zero d L cc0_scoped10.sem ∗ zero d L cc0_scoped11.sem)
      ∗ bigSep (ownCells (thr d L) \ (Finset.univ : Finset (DmaSem sig)).map (dmaCell d L)) fun g => semVal g 0) := by
  unfold SparseCore.Cfg.ownSems0
  have sub : (Finset.univ : Finset (DmaSem sig)).map (dmaCell d L) ⊆ ownCells (thr d L) := fun g hg => by
    obtain ⟨s, -, rfl⟩ := Finset.mem_map.mp hg
    exact mem_ownCells.mpr ⟨rfl, (show ∀ s : DmaSem sig, (SemLoc.dma s : SemLoc sig).isScoped .scVector = true by decide) s⟩
  rw [SparseCore.bigSep_sdiff_split' sub, bigSep_map]
  congr 1
  rw [show (Finset.univ : Finset (DmaSem sig)) = {cc0_scratch5.sem, cc0_scratch6.sem, cc0_scoped0.sem, cc0_scoped1.sem, cc0_scoped2.sem, cc0_scoped3.sem,
      cc0_scoped4.sem, cc0_scoped5.sem, cc0_scoped6.sem, cc0_scoped7.sem, cc0_scoped8.sem, cc0_scoped9.sem, cc0_scoped10.sem, cc0_scoped11.sem} by decide]
  repeat rw [SparseCore.bigSep_insert' (by decide)]
  rw [bigSep_singleton]
  rfl

/-- A tile's own buffers: its scratch, at some contents, and the rest. -/
theorem ownBufs_V : (ownBufs (thr d L) : sProp 𝕄)
    = iprop((∃ f, (thr d L).loc cc0_scratch0 ↦{fullShare} f) ∗ (∃ f, (thr d L).loc cc0_scratch2 ↦{fullShare} f) ∗ (∃ f, (thr d L).loc cc0_scratch4 ↦{fullShare} f)
      ∗ bigSep ((((ownRefs (τ := τ) (.scVector (cV L) (jV L))).erase ((Proc.scVector (cV L) (jV L)).devRef cc0_scratch0)).erase
          ((Proc.scVector (cV L) (jV L)).devRef cc0_scratch2)).erase ((Proc.scVector (cV L) (jV L)).devRef cc0_scratch4))
          fun b => iprop(∃ f, ((d, b) : Loc nD τ sig) ↦{fullShare} f)) := by
  have own : ∀ r : Ref sig .scVector, ((Proc.scVector (cV L) (jV L)).devRef r).owner = .proc (.scVector (cV L) (jV L)) →
      (Proc.scVector (cV L) (jV L)).devRef r ∈ ownRefs (τ := τ) (sig := sig) (.scVector (cV L) (jV L)) :=
    fun r h => SparseCore.Cfg.mem_ownRefs_of_owner h
  unfold SparseCore.Cfg.ownBufs
  refine (SparseCore.bigSep_erase' (own cc0_scratch0 rfl)).trans ?_
  rw [SparseCore.bigSep_erase' (Finset.mem_erase.mpr ⟨fun e => absurd (Proc.devRef_injective _ e) (show (cc0_scratch2 : Ref sig .scVector) ≠ cc0_scratch0 by decide), own cc0_scratch2 rfl⟩),
    SparseCore.bigSep_erase' (Finset.mem_erase.mpr ⟨fun e => absurd (Proc.devRef_injective _ e) (show (cc0_scratch4 : Ref sig .scVector) ≠ cc0_scratch2 by decide),
      Finset.mem_erase.mpr ⟨fun e => absurd (Proc.devRef_injective _ e) (show (cc0_scratch4 : Ref sig .scVector) ≠ cc0_scratch0 by decide), own cc0_scratch4 rfl⟩⟩)]

/-- The elements of a result as the launch hands them and as the task addresses them. -/
theorem pts_out0 (f : S16384x64.Idx → Elt F .f32) : (y0Loc d ↦[outSet (cL L) (iL L)]{fullShare} f : sProp 𝕄)
    = ((outM L (Memref.whole main_v0_0_scv)).view.loc (thr d L) ↦[(outM L (Memref.whole main_v0_0_scv)).view.set]{fullShare} f) := by rw [set_out0]; rfl
theorem pts_out1 (f : S16384x64.Idx → Elt F .f32) : (y1Loc d ↦[outSet (cL L) (iL L)]{fullShare} f : sProp 𝕄)
    = ((outM L (Memref.whole main_v0_1_scv)).view.loc (thr d L) ↦[(outM L (Memref.whole main_v0_1_scv)).view.set]{fullShare} f) := by rw [set_out1]; rfl
theorem pts_out2 (f : S16384x64.Idx → Elt F .f32) : (y2Loc d ↦[outSet (cL L) (iL L)]{fullShare} f : sProp 𝕄)
    = ((outM L (Memref.whole main_v0_2_scv)).view.loc (thr d L) ↦[(outM L (Memref.whole main_v0_2_scv)).view.set]{fullShare} f) := by rw [set_out2]; rfl
theorem pts_shIdx (f : S16x512.Idx → Elt F .i32) : (shIdxLoc d (cV L) ↦[idxSet (iL L)]{fullShare} f : sProp 𝕄) = idxRowAt d L f := by
  unfold idxRowAt; rw [set_idxRowM]; rfl
theorem pts_shRow (f : S8192x64.Idx → Elt F .f32) :
    (shRowLoc d (cV L) ↦[rowsSet (512 * (iL L).val) (512 * (iL L).val + 512)]{fullShare} f : sProp 𝕄) = rowsAt d L 0 512 f := rfl

set_option maxHeartbeats 1000000 in
/-- THE TASK: from a share of the arguments, its rows of the results and its parts of the shared scratch, its rows of the results come
    to hold the table rows that its index words name; its scratch and its semaphores are as they were. -/
theorem task_spec [FloatOps F] (hF : (K (F := F)).Facts) (hpre : PreOK m) (q : PosShare TreeShare) (O : CellTallies nD τ sig (HIx 1)) (W : Waits sig (HIx 1))
    (hO : ∀ g, O g none = 0) :
    iprop(levAts (K (F := F)).L (K (F := F)).lev ∗ emp
        ∗ (argsAt m d q ∗ outsAt d (outSet (cL L) (iL L)) (m (y0Loc d)) (m (y1Loc d)) (m (y2Loc d)) ∗ sharedAt d (cV L) (iL L))
        ∗ scopedBufs (thr d L) ∗ scopedSems0 (thr d L) ∗ owes (thr d L) O W)
      ⊢ wp frame (wpE (defs₀ (F := F)) 𝒱₀ (thr d L) none) Set.univ (task L)
          fun _ => iprop((outsAt d (outSet (cL L) (iL L)) (G0 m d) (G1 m d) (G2 m d) ∗ sharedAt d (cV L) (iL L))
            ∗ scopedBufs (thr d L) ∗ scopedSems0 (thr d L)
            ∗ ∃ W', ⌜∀ p ∈ W', p ∈ W ∨ p.2 = none⌝ ∗ owes (thr d L) O W') := by
  rw [task_eq, (K (F := F)).scopedBufs_V hF d (cV L) (jV L), SparseCore.Cfg.scopedSems0_V (Val := Elt F) d (cV L) (jV L), ownSems0_V, ownBufs_V]
  unfold outsAt sharedAt
  simp only [pts_out0, pts_out1, pts_out2, pts_shIdx, pts_shRow]
  iintro ⟨#Hlv, -, ⟨⟨Hx0, Hx1, Hx2, Ht⟩, ⟨Hy0, Hy1, Hy2⟩, H1, H3⟩, ⟨H0, H2, H4, Hbufs⟩,
    ⟨⟨Hs5, Hs6, Ha0, Ha1, Ha2, Ha3, Hb0, Hb1, Hb2, Hb3, Hc0, Hc1, Hc2, Hc3⟩, Hsems⟩, HO⟩
  ihave Hmw := (show levAts (K (F := F)).L (K (F := F)).lev ⊢ Transfers.MayWaits (thr d L) (default : HIx 1) O from
    (K (F := F)).mayWaits_none (thr := thr d L) hO) $$ Hlv
  ihave HO' := (show (owes (thr d L) O W : sProp 𝕄) ⊢ owing d L O W from by
    iintro H; iexists W; isplitr; · ipureintro; exact Later.refl W
    iexact H) $$ HO
  ihave HS := (show iprop(zero d L cc0_scratch5.sem ∗ zero d L cc0_scratch6.sem ∗ (∃ f, tileIdxAt d L f) ∗ (∃ f, idxRowAt d L f) ∗ (∃ f, wordsAt d L f)
    ∗ (∃ f, rowsAt d L 0 512 f) ∗ (∃ f, tileRowsAt d L f)) ⊢ (scratch d L : sProp 𝕄) from .rfl) $$ [Hs5 Hs6 H0 H1 H2 H3 H4]
  · isplitl [Hs5]; · iexact Hs5
    isplitl [Hs6]; · iexact Hs6
    isplitl [H0]; · iexact H0
    isplitl [H1]; · iexact H1
    isplitl [H2]; · iexact H2
    isplitl [H3]; · iexact H3
    iexact H4
  rw [wp_bind]
  iapply (wp_wand_r frame (wpE (defs₀ (F := F)) 𝒱₀ (thr d L) none) Set.univ)
  isplitl [HO' HS Ha0 Ha1 Ha2 Ha3 Hx0 Ht Hy0]
  · iapply (lookup_spec d L (Memref.whole main_arg0_scv) (Memref.whole main_v0_0_scv) 0#32 k0_chk1.dec cc0_scoped0 cc0_scoped1 cc0_scoped2 cc0_scoped3
      (.inl rfl) q q (m (x0Loc d)) (m (tLoc d)) (m (y0Loc d)) (G0 m d) (hpre d).1 rfl O W)
    isplitr; · iexact Hmw
    isplitl [HO']; · iexact HO'
    isplitl [HS]; · iexact HS
    isplitl [Ha0 Ha1 Ha2 Ha3]
    · isplitl [Ha0]; · iexact Ha0
      isplitl [Ha1]; · iexact Ha1
      isplitl [Ha2]; · iexact Ha2
      iexact Ha3
    isplitl [Hx0]; · iexact Hx0
    isplitl [Ht]; · iexact Ht
    iexact Hy0
  iintro %_ ⟨HO', HS, ⟨Ha0, Ha1, Ha2, Ha3⟩, Ht, Hy0⟩
  rw [wp_bind]
  iapply (wp_wand_r frame (wpE (defs₀ (F := F)) 𝒱₀ (thr d L) none) Set.univ)
  isplitl [HO' HS Hb0 Hb1 Hb2 Hb3 Hx1 Ht Hy1]
  · iapply (lookup_spec d L (Memref.whole main_arg1_scv) (Memref.whole main_v0_1_scv) 500000#32 k0_chk2.dec cc0_scoped4 cc0_scoped5 cc0_scoped6 cc0_scoped7
      (.inr rfl) q _ (m (x1Loc d)) (m (tLoc d)) (m (y1Loc d)) (G1 m d) (hpre d).2.1 rfl O W)
    isplitr; · iexact Hmw
    isplitl [HO']; · iexact HO'
    isplitl [HS]; · iexact HS
    isplitl [Hb0 Hb1 Hb2 Hb3]
    · isplitl [Hb0]; · iexact Hb0
      isplitl [Hb1]; · iexact Hb1
      isplitl [Hb2]; · iexact Hb2
      iexact Hb3
    isplitl [Hx1]; · iexact Hx1
    isplitl [Ht]; · iexact Ht
    iexact Hy1
  iintro %_ ⟨HO', HS, ⟨Hb0, Hb1, Hb2, Hb3⟩, Ht, Hy1⟩
  iapply (wp_wand_r frame (wpE (defs₀ (F := F)) 𝒱₀ (thr d L) none) Set.univ)
  isplitl [HO' HS Hc0 Hc1 Hc2 Hc3 Hx2 Ht Hy2]
  · iapply (lookup_spec d L (Memref.whole main_arg2_scv) (Memref.whole main_v0_2_scv) 500000#32 k0_chk3.dec cc0_scoped8 cc0_scoped9 cc0_scoped10 cc0_scoped11
      (.inr rfl) q _ (m (x2Loc d)) (m (tLoc d)) (m (y2Loc d)) (G2 m d) (hpre d).2.2 rfl O W)
    isplitr; · iexact Hmw
    isplitl [HO']; · iexact HO'
    isplitl [HS]; · iexact HS
    isplitl [Hc0 Hc1 Hc2 Hc3]
    · isplitl [Hc0]; · iexact Hc0
      isplitl [Hc1]; · iexact Hc1
      isplitl [Hc2]; · iexact Hc2
      iexact Hc3
    isplitl [Hx2]; · iexact Hx2
    isplitl [Ht]; · iexact Ht
    iexact Hy2
  iintro %_ ⟨HO', HS, ⟨Hc0, Hc1, Hc2, Hc3⟩, -, Hy2⟩
  icases HS with ⟨Hs5, Hs6, H0, H1, H2, H3, H4⟩
  isplitl [Hy0 Hy1 Hy2 H1 H3]
  · isplitl [Hy0 Hy1 Hy2]
    · isplitl [Hy0]; · iexact Hy0
      isplitl [Hy1]; · iexact Hy1
      iexact Hy2
    isplitl [H1]; · iexact H1
    iexact H3
  isplitl [H0 H2 H4 Hbufs]
  · isplitl [H0]; · iexact H0
    isplitl [H2]; · iexact H2
    isplitl [H4]; · iexact H4
    iexact Hbufs
  isplitr [HO']
  · isplitr [Hsems]
    · isplitl [Hs5]; · iexact Hs5
      isplitl [Hs6]; · iexact Hs6
      isplitl [Ha0]; · iexact Ha0
      isplitl [Ha1]; · iexact Ha1
      isplitl [Ha2]; · iexact Ha2
      isplitl [Ha3]; · iexact Ha3
      isplitl [Hb0]; · iexact Hb0
      isplitl [Hb1]; · iexact Hb1
      isplitl [Hb2]; · iexact Hb2
      isplitl [Hb3]; · iexact Hb3
      isplitl [Hc0]; · iexact Hc0
      isplitl [Hc1]; · iexact Hc1
      isplitl [Hc2]; · iexact Hc2
      iexact Hc3
    iexact Hsems
  iexact HO'

end

end Cert.Proof.Lookup

end
-- ==== Proof.Split.lean ====
/-
  How the call's operands divide between its tasks and come together again: each result by blocks of 512 rows, the arguments by
  shares, the two shared scratch buffers of a SparseCore by one row and by 512 rows per tile.
-/
module

public import proofs.«01_k».proof.Proof.Task

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Rounds

variable {F : FTy → Type}

local notation "𝕄" => MT nD τ sig (HIx 1) (Elt F) ℕ UU ℕ

/-! ## The sets -/

/-- The rows of a result that SparseCore `c` answers for. -/
def coreSet (c : Fin 2) : Finset S16384x64.Idx := Finset.univ.biUnion (outSet c)
/-- Tile `i`'s rows of the shared row scratch. -/
abbrev rowSet (i : Fin 16) : Finset S8192x64.Idx := rowsSet (512 * i.val) (512 * i.val + 512)

theorem outSets_disjoint (c : Fin 2) : ∀ i ∈ (Finset.univ : Finset (Fin 16)), ∀ j ∈ (Finset.univ : Finset (Fin 16)), i ≠ j → Disjoint (outSet c i) (outSet c j) :=
  fun i _ j _ h => Finset.disjoint_left.mpr fun x hi hj => by
    rw [mem_outSet] at hi hj
    exact h (Fin.ext (by omega))

theorem coreSets_disjoint : ∀ c ∈ (Finset.univ : Finset (Fin 2)), ∀ c' ∈ (Finset.univ : Finset (Fin 2)), c ≠ c' → Disjoint (coreSet c) (coreSet c') :=
  fun c _ c' _ h => Finset.disjoint_left.mpr fun x hi hj => by
    obtain ⟨i, -, hi⟩ := Finset.mem_biUnion.mp hi
    obtain ⟨j, -, hj⟩ := Finset.mem_biUnion.mp hj
    rw [mem_outSet] at hi hj
    exact h (Fin.ext (by omega))

theorem coreSets_cover : (Finset.univ : Finset (Fin 2)).biUnion coreSet = Finset.univ := by
  refine Finset.eq_univ_of_forall fun x => ?_
  have hx : (x 0).val < 16384 := (x 0).isLt
  refine Finset.mem_biUnion.mpr ⟨⟨(x 0).val % 1024 / 512, by omega⟩, Finset.mem_univ _,
    Finset.mem_biUnion.mpr ⟨⟨(x 0).val / 1024, by omega⟩, Finset.mem_univ _, mem_outSet.mpr ?_⟩⟩
  show 1024 * ((x 0).val / 1024) + 512 * ((x 0).val % 1024 / 512) ≤ (x 0).val ∧ (x 0).val < 1024 * ((x 0).val / 1024) + 512 * ((x 0).val % 1024 / 512) + 512
  omega

theorem idxSets_disjoint : ∀ i ∈ (Finset.univ : Finset (Fin 16)), ∀ j ∈ (Finset.univ : Finset (Fin 16)), i ≠ j → Disjoint (idxSet i) (idxSet j) :=
  fun i _ j _ h => Finset.disjoint_left.mpr fun x hi hj => by
    rw [mem_idxSet] at hi hj
    exact h (Fin.ext (by omega))

theorem idxSets_cover : (Finset.univ : Finset (Fin 16)).biUnion idxSet = Finset.univ :=
  Finset.eq_univ_of_forall fun x => Finset.mem_biUnion.mpr ⟨x 0, Finset.mem_univ _, mem_idxSet.mpr rfl⟩

theorem rowSets_disjoint : ∀ i ∈ (Finset.univ : Finset (Fin 16)), ∀ j ∈ (Finset.univ : Finset (Fin 16)), i ≠ j → Disjoint (rowSet i) (rowSet j) :=
  fun i _ j _ h => Finset.disjoint_left.mpr fun x hi hj => by
    rw [mem_rowsSet] at hi hj
    exact h (Fin.ext (by omega))

theorem rowSets_cover : (Finset.univ : Finset (Fin 16)).biUnion rowSet = Finset.univ := by
  refine Finset.eq_univ_of_forall fun x => ?_
  have hx : (x 0).val < 8192 := (x 0).isLt
  refine Finset.mem_biUnion.mpr ⟨⟨(x 0).val / 512, by omega⟩, Finset.mem_univ _, mem_rowsSet.mpr ?_⟩
  show 512 * ((x 0).val / 512) ≤ (x 0).val ∧ (x 0).val < 512 * ((x 0).val / 512) + 512
  omega

/-! ## The pieces -/

variable (m : (ℓ : Loc nD τ sig) → Buf (Elt F) ℓ) (d : Dev nD)

/-- A SparseCore's rows of the results are its tasks'. -/
theorem outs_tiles (c : Fin 2) (f0 f1 f2 : S16384x64.Idx → Elt F .f32) :
    (outsAt d (coreSet c) f0 f1 f2 : sProp 𝕄) = bigSep Finset.univ fun i : Fin 16 => outsAt d (outSet c i) f0 f1 f2 := by
  unfold coreSet outsAt
  rw [bigSep_sep', bigSep_sep', pointsTo_biUnion (ℓ := y0Loc d) _ _ (outSets_disjoint c), pointsTo_biUnion (ℓ := y1Loc d) _ _ (outSets_disjoint c),
    pointsTo_biUnion (ℓ := y2Loc d) _ _ (outSets_disjoint c)]

/-- The results are the two SparseCores' rows of them. -/
theorem outs_cores (f0 f1 f2 : S16384x64.Idx → Elt F .f32) :
    (outsAt d Finset.univ f0 f1 f2 : sProp 𝕄) = bigSep Finset.univ fun c : Fin 2 => outsAt d (coreSet c) f0 f1 f2 := by
  unfold outsAt
  rw [bigSep_sep', bigSep_sep', ← pointsTo_biUnion (ℓ := y0Loc d) _ _ coreSets_disjoint, ← pointsTo_biUnion (ℓ := y1Loc d) _ _ coreSets_disjoint,
    ← pointsTo_biUnion (ℓ := y2Loc d) _ _ coreSets_disjoint, coreSets_cover]

/-- A share of the arguments gives `n` shares of them, and one more. -/
theorem args_shares (q : PosShare TreeShare) (n : ℕ) :
    (argsAt m d q : sProp 𝕄) ⊢ iprop(argsAt m d (Transfers.shareDrop q n) ∗ bigSep Finset.univ fun i : Fin n => argsAt m d (Transfers.shareTok q n i)) := by
  unfold argsAt
  rw [bigSep_sep', bigSep_sep', bigSep_sep']
  iintro ⟨H0, H1, H2, H3⟩
  ihave H0 := (Transfers.pointsTo_toks_split q n) $$ H0
  ihave H1 := (Transfers.pointsTo_toks_split q n) $$ H1
  ihave H2 := (Transfers.pointsTo_toks_split q n) $$ H2
  ihave H3 := (Transfers.pointsTo_toks_split q n) $$ H3
  icases H0 with ⟨D0, T0⟩
  icases H1 with ⟨D1, T1⟩
  icases H2 with ⟨D2, T2⟩
  icases H3 with ⟨D3, T3⟩
  isplitl [D0 D1 D2 D3]
  · isplitl [D0]; · iexact D0
    isplitl [D1]; · iexact D1
    isplitl [D2]; · iexact D2
    iexact D3
  isplitl [T0]; · iexact T0
  isplitl [T1]; · iexact T1
  isplitl [T2]; · iexact T2
  iexact T3

/-- A buffer at some contents is its pieces, each at some contents … -/
theorem pieces_of {ℓ : Loc nD τ sig} (S : Fin 16 → Finset (Idx ℓ)) (hd : ∀ i ∈ (Finset.univ : Finset (Fin 16)), ∀ j ∈ (Finset.univ : Finset (Fin 16)), i ≠ j → Disjoint (S i) (S j))
    (hc : (Finset.univ : Finset (Fin 16)).biUnion S = Finset.univ) :
    (iprop(∃ f, ℓ ↦{fullShare} f) : sProp 𝕄) ⊢ bigSep Finset.univ fun i => iprop(∃ f, ℓ ↦[S i]{fullShare} f) := by
  iintro ⟨%f, H⟩
  ihave H' := (show (ℓ ↦{fullShare} f : sProp 𝕄) ⊢ bigSep Finset.univ fun i => iprop(∃ f, ℓ ↦[S i]{fullShare} f) from by
    rw [← hc, pointsTo_biUnion _ _ hd]
    exact SparseCore.ent (bigSep_mono fun i _ => BI.BIClass.exists_intro (Φ := fun f => (ℓ ↦[S i]{fullShare} f : sProp 𝕄)) f)) $$ H
  iexact H'

/-- … and the pieces, each at some contents, are the buffer at some contents. -/
theorem of_pieces {ℓ : Loc nD τ sig} (S : Fin 16 → Finset (Idx ℓ)) (hd : ∀ i ∈ (Finset.univ : Finset (Fin 16)), ∀ j ∈ (Finset.univ : Finset (Fin 16)), i ≠ j → Disjoint (S i) (S j))
    (hc : (Finset.univ : Finset (Fin 16)).biUnion S = Finset.univ) [Nonempty (Buf (Elt F) ℓ)] :
    (bigSep Finset.univ fun i => iprop(∃ f, ℓ ↦[S i]{fullShare} f)) ⊢ (iprop(∃ f, ℓ ↦{fullShare} f) : sProp 𝕄) := by
  refine (bigSep_exists_pi Finset.univ fun i (f : Buf (Elt F) ℓ) => (ℓ ↦[S i]{fullShare} f : sProp 𝕄)).trans ?_
  iintro ⟨%fs, H⟩
  ihave H' := (pointsTo_biUnion_join (ℓ := ℓ) (q := fullShare) (Val := Elt F) Finset.univ S fs (fs 0) hd) $$ H
  icases H' with ⟨%g, -, Hg⟩
  rw [hc]
  iexists g; iexact Hg

/-- The shared scratch of a SparseCore at some contents … -/
abbrev sharedAll (c : Fin τ.nSC) : sProp 𝕄 := iprop((∃ f, shIdxLoc d c ↦{fullShare} f) ∗ (∃ f, shRowLoc d c ↦{fullShare} f))

/-- … divides between the tiles … -/
theorem shared_split (c : Fin τ.nSC) : (sharedAll d c : sProp 𝕄) ⊢ bigSep Finset.univ fun i => sharedAt d c i := by
  unfold sharedAt
  rw [bigSep_sep']
  iintro ⟨H, H'⟩
  isplitl [H]
  · iapply (pieces_of (ℓ := shIdxLoc d c) idxSet idxSets_disjoint idxSets_cover); iexact H
  · iapply (pieces_of (ℓ := shRowLoc d c) rowSet rowSets_disjoint rowSets_cover); iexact H'

/-- … and comes together from them. -/
theorem shared_join [∀ e, Nonempty (Elt F e)] (c : Fin τ.nSC) : (bigSep Finset.univ fun i => sharedAt d c i) ⊢ (sharedAll d c : sProp 𝕄) := by
  have : Nonempty (Buf (Elt F) (shIdxLoc d c)) := ⟨fun _ => Classical.choice inferInstance⟩
  have : Nonempty (Buf (Elt F) (shRowLoc d c)) := ⟨fun _ => Classical.choice inferInstance⟩
  unfold sharedAt
  rw [bigSep_sep']
  iintro ⟨H, H'⟩
  isplitl [H]
  · iapply (of_pieces (ℓ := shIdxLoc d c) idxSet idxSets_disjoint idxSets_cover); iexact H
  · iapply (of_pieces (ℓ := shRowLoc d c) rowSet rowSets_disjoint rowSets_cover); iexact H'

/-- A sequencer's own buffers: the shared scratch of its SparseCore, and the rest. -/
theorem ownBufs_S (c : Fin τ.nSC) : (ownBufs (S d c) : sProp 𝕄)
    = iprop(sharedAll d c ∗ bigSep (((ownRefs (τ := τ) (.scScalar c)).erase (shIdx c)).erase (shRow c)) fun b => iprop(∃ f, ((d, b) : Loc nD τ sig) ↦{fullShare} f)) := by
  have hi : shIdx c ∈ ownRefs (τ := τ) (sig := sig) (.scScalar c) := (mem_ownRefs (p := Proc.scScalar c) (b := shIdx c)).mpr rfl
  have hr : shRow c ∈ ownRefs (τ := τ) (sig := sig) (.scScalar c) := (mem_ownRefs (p := Proc.scScalar c) (b := shRow c)).mpr rfl
  have ne : shRow c ≠ shIdx c := fun e => by
    have h : (1 : ℕ) = 0 := congrArg (fun b : DevRef τ sig => b.idx.val) e
    exact absurd h (by decide)
  unfold SparseCore.Cfg.ownBufs
  refine (SparseCore.bigSep_erase' hi).trans ?_
  rw [SparseCore.bigSep_erase' (Finset.mem_erase.mpr ⟨ne, hr⟩)]
  exact BI.Entails.antisymm BI.sep_assoc' BI.sep_assoc

end Cert.Proof.Lookup

end
-- ==== Proof.Launch.lean ====
/-
  The launch: what the TensorCore hands the two sequencers and these their tiles, and what comes back; the run of the whole program.
-/
module

public import proofs.«01_k».proof.Proof.Split

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## What the handshakes carry -/

/-- Core `c` of the call as one of the two SparseCores; tile `i` of the call as one of the sixteen. -/
abbrev cc (c : Fin ((K (F := F)).nCore 0)) : Fin 2 := Fin.cast nCore_zero c
abbrev ii (i : Fin ((K (F := F)).nSub 0)) : Fin 16 := Fin.cast nSub_zero i

/-- The share of the arguments that a SparseCore is handed, and a tile of it. -/
abbrev coreShare (c : Fin 2) : PosShare TreeShare := Transfers.shareTok fullShare 2 c
abbrev tileShare (c : Fin 2) (i : Fin 16) : PosShare TreeShare := Transfers.shareTok (coreShare c) 16 i

/-- A sequencer gets a share of the arguments and its rows of the results as the launch left them, and returns the rows filled; a tile
    gets a share of that share, its own rows and its parts of the shared scratch, and returns the rows filled and the scratch. -/
def P : (K (F := F)).Pay (nD := nD) (Val := Elt F) (Name := ℕ) (U := UU) where
  st := fun q d c => match q with
    | 0 => iprop(argsAt m d (coreShare (cc c)) ∗ outsAt d (coreSet (cc c)) (m (y0Loc d)) (m (y1Loc d)) (m (y2Loc d)))
  dn := fun q d c => match q with
    | 0 => outsAt d (coreSet (cc c)) (G0 m d) (G1 m d) (G2 m d)
  go := fun q d c i => match q with
    | 0 => iprop(argsAt m d (tileShare (cc c) (ii i)) ∗ outsAt d (outSet (cc c) (ii i)) (m (y0Loc d)) (m (y1Loc d)) (m (y2Loc d))
        ∗ sharedAt d ((K (F := F)).core 0 c) (ii i))
  td := fun q d c i => match q with
    | 0 => iprop(outsAt d (outSet (cc c) (ii i)) (G0 m d) (G1 m d) (G2 m d) ∗ sharedAt d ((K (F := F)).core 0 c) (ii i))
  x := fun _ _ => iprop(emp)

instance P_storable : (P m).IsStorable where
  st := fun q d c => match q with
    | 0 => (inferInstance : BI.Storable (upEmb : UEmb _ 𝕄) iprop(argsAt m d (coreShare (cc c)) ∗ outsAt d (coreSet (cc c)) (m (y0Loc d)) (m (y1Loc d)) (m (y2Loc d))))
  dn := fun q d c => match q with
    | 0 => (inferInstance : BI.Storable (upEmb : UEmb _ 𝕄) (outsAt d (coreSet (cc c)) (G0 m d) (G1 m d) (G2 m d)))
  go := fun q d c i => match q with
    | 0 => (inferInstance : BI.Storable (upEmb : UEmb _ 𝕄) iprop(argsAt m d (tileShare (cc c) (ii i))
        ∗ outsAt d (outSet (cc c) (ii i)) (m (y0Loc d)) (m (y1Loc d)) (m (y2Loc d)) ∗ sharedAt d ((K (F := F)).core 0 c) (ii i)))
  td := fun q d c i => match q with
    | 0 => (inferInstance : BI.Storable (upEmb : UEmb _ 𝕄) iprop(outsAt d (outSet (cc c) (ii i)) (G0 m d) (G1 m d) (G2 m d)
        ∗ sharedAt d ((K (F := F)).core 0 c) (ii i)))

/-! ## A tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 () = SparseCore.onTile hcore0 hsub0 (fun c s => task (coordsV c s)) ⟨⟩ c s := rfl

/-- The waits a task adds are its own: what the launch asks of it. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile of every SparseCore does what its handshake promises. -/
theorem tileObl [FloatOps F] (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task_spec m d (coordsV ⟨_, hci.1⟩ ⟨_, hci.2⟩) hF hpre (tileShare (cc c) (ii i)) O W hO).trans (wp_mono frame _ _ fun _ => obl_post)

/-! ## A sequencer's split -/

theorem bigSep_tasks (Φ : Fin 16 → sProp 𝕄) :
    (bigSep Finset.univ fun i : Fin ((K (F := F)).nSub 0) => Φ (ii i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (cc c)) = bigSep Finset.univ Φ :=
  bigSep_congr fun _ _ => congrArg Φ (Fin.ext rfl)

/-- What a sequencer is handed, and its SparseCore's shared scratch, divides between the tiles, and what these return comes together. -/
theorem vecSplit [∀ e, Nonempty (Elt F e)] : (K (F := F)).VecSplit (P m) 0 := by
  intro d c
  show iprop(iprop(argsAt m d (coreShare (cc c)) ∗ outsAt d (coreSet (cc c)) (m (y0Loc d)) (m (y1Loc d)) (m (y2Loc d))) ∗ ownBufs (S d ((K (F := F)).core 0 c)))
    ⊢ |={Set.univ}=> iprop(
      (bigSep Finset.univ fun i : Fin ((K (F := F)).nSub 0) => iprop(argsAt m d (tileShare (cc c) (ii i))
        ∗ outsAt d (outSet (cc c) (ii i)) (m (y0Loc d)) (m (y1Loc d)) (m (y2Loc d)) ∗ sharedAt d ((K (F := F)).core 0 c) (ii i)))
      ∗ ((bigSep Finset.univ fun i : Fin ((K (F := F)).nSub 0) => iprop(outsAt d (outSet (cc c) (ii i)) (G0 m d) (G1 m d) (G2 m d)
            ∗ sharedAt d ((K (F := F)).core 0 c) (ii i)))
          -∗ iprop(outsAt d (coreSet (cc c)) (G0 m d) (G1 m d) (G2 m d) ∗ ownBufs (S d ((K (F := F)).core 0 c)))))
  rw [bigSep_tasks (fun i => iprop(argsAt m d (tileShare (cc c) i) ∗ outsAt d (outSet (cc c) i) (m (y0Loc d)) (m (y1Loc d)) (m (y2Loc d))
      ∗ sharedAt d ((K (F := F)).core 0 c) i)),
    bigSep_tasks (fun i => iprop(outsAt d (outSet (cc c) i) (G0 m d) (G1 m d) (G2 m d) ∗ sharedAt d ((K (F := F)).core 0 c) i)),
    bigSep_sep' _ (fun i => argsAt m d (tileShare (cc c) i)), bigSep_sep' _ (fun i => outsAt d (outSet (cc c) i) (m (y0Loc d)) (m (y1Loc d)) (m (y2Loc d))),
    bigSep_sep' _ (fun i => outsAt d (outSet (cc c) i) (G0 m d) (G1 m d) (G2 m d)), ← outs_tiles, ← outs_tiles, ownBufs_S]
  iintro ⟨⟨Ha, Ho⟩, Hs, Hrest⟩
  imodintro
  isplitl [Ha Ho Hs]
  · isplitl [Ha]
    · ihave Ha := (args_shares m d (coreShare (cc c)) 16) $$ Ha
      icases Ha with ⟨-, Ha⟩
      iexact Ha
    isplitl [Ho]; · iexact Ho
    iapply (shared_split d ((K (F := F)).core 0 c)); iexact Hs
  iintro ⟨Ho, Hs⟩
  isplitl [Ho]; · iexact Ho
  isplitl [Hs]; · iapply (shared_join d ((K (F := F)).core 0 c)); iexact Hs
  iexact Hrest

/-! ## The launch -/

/-- What the launch starts from: the handshakes' tokens, and no copy counted. -/
def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-- A device's arrays. -/
theorem unscopedBufs_eq (d : Dev nD) (W : (b : Ref sig .tc) → Buf (Elt F) ((d.tc : Thread nD τ).loc b)) :
    (unscopedBufs d W : sProp 𝕄) = iprop((x0Loc d ↦{fullShare} W main_arg0) ∗ (x1Loc d ↦{fullShare} W main_arg1) ∗ (x2Loc d ↦{fullShare} W main_arg2)
      ∗ (tLoc d ↦{fullShare} W main_arg3) ∗ (y0Loc d ↦{fullShare} W main_v0_0) ∗ (y1Loc d ↦{fullShare} W main_v0_1) ∗ y2Loc d ↦{fullShare} W main_v0_2) := by
  unfold unscopedBufs
  rw [show (Finset.univ.filter fun b : Ref sig .tc => ¬ b.isScoped) = {main_arg0, main_arg1, main_arg2, main_arg3, main_v0_0, main_v0_1, main_v0_2} by decide]
  repeat rw [SparseCore.bigSep_insert' (by decide)]
  rw [bigSep_singleton]

theorem st0_eq (d : Dev nD) : (bigSep Finset.univ fun c : Fin ((K (F := F)).nCore 0) => (P m).st 0 d c)
    = iprop((bigSep Finset.univ fun c : Fin 2 => argsAt m d (coreShare c)) ∗ outsAt d Finset.univ (m (y0Loc d)) (m (y1Loc d)) (m (y2Loc d))) := by
  rw [outs_cores, ← bigSep_sep']
  exact bigSep_cores fun c => iprop(argsAt m d (coreShare c) ∗ outsAt d (coreSet c) (m (y0Loc d)) (m (y1Loc d)) (m (y2Loc d)))
theorem dn0_eq (d : Dev nD) : (bigSep Finset.univ fun c : Fin ((K (F := F)).nCore 0) => (P m).dn 0 d c)
    = outsAt d Finset.univ (G0 m d) (G1 m d) (G2 m d) := by
  rw [outs_cores]
  exact bigSep_cores fun c => outsAt d (coreSet c) (G0 m d) (G1 m d) (G2 m d)

/-- What a device ends with: the share of the arguments it kept, and the results. -/
abbrev FIN (d : Dev nD) : sProp 𝕄 := iprop(argsAt m d (Transfers.shareDrop fullShare 2) ∗ outsAt d Finset.univ (G0 m d) (G1 m d) (G2 m d))

/-- The program on device `d`'s TensorCore: the one call. -/
theorem hmain [FloatOps F] (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx0, Hx1, Hx2, Ht, Hy0, Hy1, Hy2⟩, Hts, -⟩, -⟩
  ihave Ha := (args_shares m d fullShare 2) $$ [Hx0 Hx1 Hx2 Ht]
  · isplitl [Hx0]; · iexact Hx0
    isplitl [Hx1]; · iexact Hx1
    isplitl [Hx2]; · iexact Hx2
    iexact Ht
  icases Ha with ⟨Hkeep, Ha⟩
  iapply ((K (F := F)).wp_run (D (F := F)) 𝒱 (EH := EH) (P := P m) κ d 0) $$ [Hst Hkeep Ha Hy0 Hy1 Hy2 Hb Hts]
  isplitr; · iexact Hctx
  isplitl [Hst]; · iexact Hst
  isplitl [Ha Hy0 Hy1 Hy2]
  · rw [st0_eq]
    isplitl [Ha]; · iexact Ha
    isplitl [Hy0]; · iexact Hy0
    isplitl [Hy1]; · iexact Hy1
    iexact Hy2
  iintro ⟨Hst, Hdn⟩
  ihave Hdn' := (Entails.of_eq (dn0_eq m d)) $$ Hdn
  imodintro
  isplitl [Hst]; · iexact Hst
  isplitr [Hb Hts]
  · isplitl [Hkeep]; · iexact Hkeep
    iexact Hdn'
  isplitl [Hb] <;> iassumption

/-- What the final memory of a device holds. -/
def fq (d : Dev nD) (s' : Phys nD τ sig (Elt F)) : Prop :=
  (s'.mem.mem (y0Loc d) = G0 m d ∧ s'.mem.mem (y1Loc d) = G1 m d ∧ s'.mem.mem (y2Loc d) = G2 m d)
    ∧ s'.mem.mem (x0Loc d) = m (x0Loc d) ∧ s'.mem.mem (x1Loc d) = m (x1Loc d) ∧ s'.mem.mem (x2Loc d) = m (x2Loc d) ∧ s'.mem.mem (tLoc d) = m (tLoc d)

/-- An array known whole, under any share, is what the memory holds. -/
theorem agree (s' : Phys nD τ sig (Elt F)) (ℓ : Loc nD τ sig) (q : PosShare TreeShare) (f : Buf (Elt F) ℓ) :
    iprop(SI s' ∗ ℓ ↦{q} f) ⊢ (iprop(⌜s'.mem.mem ℓ = f⌝ ∗ SI s') : sProp 𝕄) := by
  iintro H
  ihave H := (persistent_entails_right (SI_pointsTo_agree (st := s') (ℓ := ℓ) (I := Finset.univ) (q := q) (f := f))) $$ H
  icases H with ⟨%h, HSI, -⟩
  isplitr
  · ipureintro; exact funext fun i => h i (Finset.mem_univ i)
  iexact HSI

set_option maxRecDepth 16384 in
theorem hfin (d : Dev nD) (s' : Phys nD τ sig (Elt F)) : iprop(FIN m d ∗ SI s') ⊢ (⌜fq m d s'⌝ : sProp 𝕄) := by
  iintro ⟨⟨⟨Hx0, Hx1, Hx2, Ht⟩, Hy0, Hy1, Hy2⟩, HSI⟩
  ihave H := (agree s' (x0Loc d) _ _) $$ [HSI Hx0]; · isplitl [HSI] <;> iassumption
  icases H with ⟨%h0, HSI⟩
  ihave H := (agree s' (x1Loc d) _ _) $$ [HSI Hx1]; · isplitl [HSI] <;> iassumption
  icases H with ⟨%h1, HSI⟩
  ihave H := (agree s' (x2Loc d) _ _) $$ [HSI Hx2]; · isplitl [HSI] <;> iassumption
  icases H with ⟨%h2, HSI⟩
  ihave H := (agree s' (tLoc d) _ _) $$ [HSI Ht]; · isplitl [HSI] <;> iassumption
  icases H with ⟨%h3, HSI⟩
  ihave H := (agree s' (y0Loc d) _ _) $$ [HSI Hy0]; · isplitl [HSI] <;> iassumption
  icases H with ⟨%h4, HSI⟩
  ihave H := (agree s' (y1Loc d) _ _) $$ [HSI Hy1]; · isplitl [HSI] <;> iassumption
  icases H with ⟨%h5, HSI⟩
  ihave H := (agree s' (y2Loc d) _ _) $$ [HSI Hy2]; · isplitl [HSI] <;> iassumption
  icases H with ⟨%h6, -⟩
  ipureintro; exact ⟨⟨h4, h5, h6⟩, h0, h1, h2, h3⟩

/-- What the whole run ends with. -/
def QC : PUnit × MemSt nD τ sig (Elt F) → Prop := fun r =>
  (∀ c : Dev nD, (r.2.mem (y0Loc c) = G0 m c ∧ r.2.mem (y1Loc c) = G1 m c ∧ r.2.mem (y2Loc c) = G2 m c)
    ∧ r.2.mem (x0Loc c) = m (x0Loc c) ∧ r.2.mem (x1Loc c) = m (x1Loc c) ∧ r.2.mem (x2Loc c) = m (x2Loc c) ∧ r.2.mem (tLoc c) = m (tLoc c))
  ∧ r.2.sem = fun _ => 0

/-- THE RUN: with every index word below 500000 the program ends, the results holding the table's rows that the index arrays name, the
    arguments as they were, and every semaphore at zero. -/
theorem run_main [FloatOps F] [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => vecSplit m)
    m ρ main (fun _ => iprop(emp)) (FIN m) (u₀ (F := F)) (sep_elim_left.trans (hu₀ m)) (hmain m ρ) (fq m) (hfin m) (QC m) (fun _ h hz => ⟨h, hz⟩)

end Cert.Proof.Lookup

end
-- ==== Proof.Range.lean ====
/-
  The claims' precondition, read back: it says of each index array that every word of it, as a signed number, is at least 0 and below
  500000; so, as a natural number, below 500000.
-/
module

public import proofs.«01_k».proof.Proof.Task
public import Idealize.ShloMosaic.Lib.ReduceAll

@[expose] public section

noncomputable section

namespace Cert.Proof.Lookup

open Idealize.ShloMosaic
open Cert.Pre_ids_in_range Cert.Pre_ids_in_range.Gen

variable {F : FTy → Type} [FloatOps F]

/-- A signed word from 0 on and below 500000 is a natural number below 500000. -/
theorem toNat_lt {v : BitVec 32} (h0 : IntOp.cmpi .sge v 0#32 = 1#1) (h1 : IntOp.cmpi .slt v 500000#32 = 1#1) : v.toNat < 500000 := by
  rw [IntOp.cmpi_sge, show (0#32).toInt = 0 from rfl] at h0
  rw [IntOp.cmpi_slt, show (500000#32).toInt = 500000 from rfl] at h1
  rw [BitVec.toInt_eq_toNat_cond] at h0 h1
  split at h0 <;> omega

/-- All elements of an index array are at least 0, as the precondition says it; all are below 500000. -/
def allGe (x : IVec S16384 32) : IVec S_ 1 :=
  Host.reduce IntOp.andi (cmpi .sge x (broadcastInDim S16384 ![] bcast_S_S16384 (constantI S_ 32 0#32))) (constantI S_ 1 1#1) reducesTo_S16384_S_d0 h_S_
def allLt (x : IVec S16384 32) : IVec S_ 1 :=
  Host.reduce IntOp.andi (cmpi .slt x (broadcastInDim S16384 ![] bcast_S_S16384 (constantI S_ 32 500000#32))) (constantI S_ 1 1#1) reducesTo_S16384_S_d0 h_S_

theorem inRange_of {x : IVec S16384 32} {j : S_.Idx} (h0 : allGe x j = 1#1) (h1 : allLt x j = 1#1) : ∀ k, (x k).toNat < 500000 := by
  have : Subsingleton S_.Idx := ⟨fun a b => funext fun i => i.elim0⟩
  exact fun k => toNat_lt (Host.reduce_andi_all _ _ _ _ j h0 k) (Host.reduce_andi_all _ _ _ _ j h1 k)

/-- The precondition bounds the words of all three index arrays. -/
theorem inRange_of_pre {x0 x1 x2 : IVec S16384 32} {ft : FVec F S1000000x64 .f32}
    (h : Cert.Pre_ids_in_range.fn (F := F) x0 x1 x2 ft = fun _ => 1#1) :
    (∀ k, (x0 k).toNat < 500000) ∧ (∀ k, (x1 k).toNat < 500000) ∧ ∀ k, (x2 k).toNat < 500000 := by
  let j : S_.Idx := fun i => i.elim0
  have e : IntOp.andi (IntOp.andi (IntOp.andi (IntOp.andi (IntOp.andi (allGe x0 j) (allLt x0 j)) (allGe x1 j)) (allLt x1 j)) (allGe x2 j)) (allLt x2 j) = 1#1 :=
    congrFun h j
  simp only [IntOp.andi_eq_one] at e
  obtain ⟨⟨⟨⟨⟨a, b⟩, c⟩, d⟩, e⟩, f⟩ := e
  exact ⟨inRange_of a b, inRange_of c d, inRange_of e f⟩

end Cert.Proof.Lookup

end
-- ==== Proof.Plain.lean ====
/-
  What the reference computes, read at an index: each of its three lookups — a row number brought into the table's range as Python
  does for a negative one, a row gathered, a fill where the number is out of range — is, for row numbers in range, the row.
-/
module

public import proofs.«01_k».proof.Proof.Setup
public import proofs.«01_k».proof.Proof.Gen.ReferenceIdeal
public import Idealize.ShloMosaic.Lib.ReduceAll
public import Idealize.ShloMosaic.Lib.Routing.Ops

@[expose] public section

noncomputable section

namespace Cert.Proof.Plain

open Cert.ReferenceIdeal Cert.ReferenceIdeal.Gen
open Idealize.ShloMosaic Idealize.ShloMosaic.ValueIdx
open Cert.Proof.Lookup (cell pos rowOf gathered InRange)

variable {F : FTy → Type} [FloatOps F]

/-- Row numbers with the table's size added to the negative ones. -/
def wrapped (v : IVec S16384 32) : IVec S16384 32 :=
  select (cmpi .slt v (broadcastInDim S16384 ![] bcast_S_S16384 (constantI S_ 32 0#32)))
    (addi v (broadcastInDim S16384 ![] bcast_S_S16384 (constantI S_ 32 1000000#32))) v
/-- Those, as a column. -/
def column (v : IVec S16384 32) : IVec S16384x1 32 := broadcastInDim S16384x1 ![0] bcast_S16384_S16384x1_0 (wrapped v)
/-- Which of them name a row of the table. -/
def named (v : IVec S16384 32) : IVec S16384x1 1 :=
  andi (cmpi .sge (column v) (broadcastInDim S16384x1 ![] bcast_S_S16384x1 (constantI S_ 32 0#32)))
    (cmpi .sle (column v) (broadcastInDim S16384x1 ![0, 1] bcast_S1x1_S16384x1_0_1 (broadcastInDim S1x1 ![1] bcast_S1_S1x1_1 (constantI S1 32 999999#32))))
/-- The reference's lookup of the rows `v` of `ft`. -/
def taken (ft : FVec F S1000000x64 .f32) (v : IVec S16384 32) : FVec F S16384x64 .f32 :=
  select (broadcastInDim S16384x64 ![0] bcast_S16384_S16384x64_0
      (Host.reduce IntOp.andi (named v) (constantI S_ 1 1#1) reducesTo_S16384x1_S16384_d1 h_S_))
    (Host.gather gather_S1000000x64_S16384x1_S16384x64_1_0_n_n_0_1_164 ft (column v))
    (broadcastInDim S16384x64 ![] bcast_S_S16384x64 (constant S_ .f32 0x7FC00000#32))

/-- A number below a million, as a signed word. -/
theorem toInt_lt {v : BitVec 32} (h : v.toNat < 1000000) : v.toInt = v.toNat := by
  rw [BitVec.toInt_eq_toNat_cond, if_pos (by omega)]

/-- A choice by the bit 1 is the first of the two. -/
theorem select_of_one {s : Shape} {α : Type} {c : IVec s 1} (a b : s.Idx → α) (x : s.Idx) (h : c x = 1#1) : select c a b x = a x := by
  unfold select Scalar.select
  rw [h]; rfl

variable {v : IVec S16384 32} (hv : ∀ k, (v k).toNat < 1000000)
include hv

theorem wrapped_eq : wrapped v = v := funext fun k => by
  have h : ¬ IntOp.cmpi .slt (v k) 0#32 = 1#1 := by
    rw [IntOp.cmpi_slt, toInt_lt (hv k)]; show ¬ ((v k).toNat : Int) < 0; omega
  show (if IntOp.cmpi .slt (v k) 0#32 = 1#1 then _ else v k) = v k
  rw [if_neg h]

theorem column_apply (y : S16384x1.Idx) : column v y = v (pos (y 0)) := by
  unfold column
  rw [wrapped_eq hv]
  refine congrArg v (funext fun a => ?_)
  match a with
  | ⟨0, _⟩ => rfl

theorem named_eq (y : S16384x1.Idx) : named v y = 1#1 := by
  have hy := hv (pos (y 0))
  show IntOp.andi (IntOp.cmpi .sge (column v y) 0#32) (IntOp.cmpi .sle (column v y) 999999#32) = 1#1
  rw [column_apply hv, IntOp.andi_eq_one, IntOp.cmpi_sge, IntOp.cmpi_sle, toInt_lt hy]
  exact ⟨show (0 : Int) ≤ (v (pos (y 0))).toNat by omega, show ((v (pos (y 0))).toNat : Int) ≤ 999999 by omega⟩

/-- For row numbers in the table's range, the lookup at `(r, j)` is column `j` of the row that entry `r` names. -/
theorem taken_eq (ft : FVec F S1000000x64 .f32) : taken ft v = fun x => cell ft (v (pos (x 0))).toNat (x 1) := funext fun x => by
  have hr : Host.reduce IntOp.andi (named v) (constantI S_ 1 1#1) reducesTo_S16384x1_S16384_d1 h_S_ (pos (x 0)) = 1#1 :=
    Host.reduce_andi_one _ _ _ _ _ rfl (named_eq hv)
  have hm : broadcastInDim S16384x64 ![0] bcast_S16384_S16384x64_0
      (Host.reduce IntOp.andi (named v) (constantI S_ 1 1#1) reducesTo_S16384x1_S16384_d1 h_S_) x = 1#1 := by
    refine (congrArg (Host.reduce IntOp.andi (named v) (constantI S_ 1 1#1) reducesTo_S16384x1_S16384_d1 h_S_) (funext fun a => ?_)).trans hr
    match a with
    | ⟨0, _⟩ => rfl
  have hx : x = ix2 (x 0 : Fin 16384) (x 1 : Fin 64) := eq_ix2 x
  have hg := Routing.gather_row (nb := 1000000) gather_S1000000x64_S16384x1_S16384x64_1_0_n_n_0_1_164 rfl rfl rfl rfl rfl ft (column v)
    (x 0 : Fin 16384) (x 1 : Fin 64) ⟨(v (pos (x 0))).toNat, hv _⟩ ((column_apply hv _).trans (BitVec.ofNat_toNat _ _ |>.trans (BitVec.setWidth_eq _)).symm)
    (by norm_num)
  refine (select_of_one _ _ _ hm).trans ?_
  refine (congrArg (Host.gather gather_S1000000x64_S16384x1_S16384x64_1_0_n_n_0_1_164 ft (column v)) hx).trans (hg.trans (congrArg ft (funext fun a => ?_)))
  have h := hv (pos (x 0))
  match a with
  | ⟨0, _⟩ => exact Fin.ext (show (v (pos (x 0))).toNat = min (v (pos (x 0))).toNat 999999 by omega)
  | ⟨1, _⟩ => rfl

omit hv

/-- An index array with the first row of a half of the table added. -/
def shifted (off : BitVec 32) (fx : IVec S16384 32) : IVec S16384 32 := addi fx (broadcastInDim S16384 ![] bcast_S_S16384 (constantI S_ 32 off))

/-- The lookup in the table's first half. -/
theorem taken_first (ft : FVec F S1000000x64 .f32) {fx : IVec S16384 32} (h : ∀ k, (fx k).toNat < 500000) :
    taken ft fx = gathered (F := F) 0#32 ft fx := by
  rw [taken_eq fun k => by have := h k; omega]
  refine funext fun x => ?_
  show cell ft (fx (pos (x 0))).toNat (x 1) = cell ft (fx (pos (x 0)) + 0#32).toNat (x 1)
  rw [BitVec.add_zero]

/-- The lookup in its second half. -/
theorem taken_second (ft : FVec F S1000000x64 .f32) {fx : IVec S16384 32} (h : ∀ k, (fx k).toNat < 500000) :
    taken ft (shifted 500000#32 fx) = gathered (F := F) 500000#32 ft fx := by
  refine taken_eq (fun k => ?_) ft
  have := h k
  show (fx k + 500000#32).toNat < 1000000
  rw [BitVec.toNat_add, show (500000#32).toNat = 500000 from rfl]
  omega

end Cert.Proof.Plain

end
-- ==== Proof.RefRun.lean ====
/-
  The runs of the two printings of the reference: each result is a lookup of the table (Plain.lean), each argument as it was; and, where
  the index words are in range, the rows the kernel finds too.
-/
module

public import proofs.«01_k».proof.Proof.Plain
public import proofs.«01_k».proof.Proof.Gen.ReferenceIdeal.Run
public import proofs.«01_k».proof.Proof.Gen.Reference
public import proofs.«01_k».proof.Proof.Gen.Reference.Run

@[expose] public section

noncomputable section

namespace Cert.Proof.Plain

open Idealize.ShloMosaic Idealize.SL.Sem

variable {F : FTy → Type} [FloatOps F]

/-- The idealized reference's run, each result named as a lookup. -/
theorem run_ideal (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ fun r =>
      ∀ c : Dev Cert.ReferenceIdeal.nD,
        r.2.mem (c.tc.loc Cert.ReferenceIdeal.main_v0) = taken (F := F) (m (c.tc.loc Cert.ReferenceIdeal.main_arg3)) (m (c.tc.loc Cert.ReferenceIdeal.main_arg0))
        ∧ r.2.mem (c.tc.loc Cert.ReferenceIdeal.main_v3) = taken (F := F) (m (c.tc.loc Cert.ReferenceIdeal.main_arg3)) (shifted 500000#32 (m (c.tc.loc Cert.ReferenceIdeal.main_arg1)))
        ∧ r.2.mem (c.tc.loc Cert.ReferenceIdeal.main_v6) = taken (F := F) (m (c.tc.loc Cert.ReferenceIdeal.main_arg3)) (shifted 500000#32 (m (c.tc.loc Cert.ReferenceIdeal.main_arg2)))
        ∧ r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)
        ∧ r.2.mem (c.tc.loc Cert.ReferenceIdeal.main_arg3) = m (c.tc.loc Cert.ReferenceIdeal.main_arg3) :=
  (θ_run Cert.ReferenceIdeal.defs _ _).mono (fun _ h c => h c) (Cert.ReferenceIdeal.Value.run m ρ)

/-- The run of the reference as printed, the same. -/
theorem run_printed (m : (ℓ : Loc Cert.Reference.nD Cert.Reference.τ Cert.Reference.sig) → Buf (Elt F) ℓ) (ρ : Dev Cert.Reference.nD → PrngReg) :
    θ_run (Cert.Reference.defs (F := F)) (onTc (τ := Cert.Reference.τ) (Cert.Reference.main (F := F))) ⟨m, fun _ => 0, ρ⟩ fun r =>
      ∀ c : Dev Cert.Reference.nD,
        r.2.mem (c.tc.loc Cert.Reference.main_v0) = taken (F := F) (m (c.tc.loc Cert.Reference.main_arg3)) (m (c.tc.loc Cert.Reference.main_arg0))
        ∧ r.2.mem (c.tc.loc Cert.Reference.main_v3) = taken (F := F) (m (c.tc.loc Cert.Reference.main_arg3)) (shifted 500000#32 (m (c.tc.loc Cert.Reference.main_arg1)))
        ∧ r.2.mem (c.tc.loc Cert.Reference.main_v6) = taken (F := F) (m (c.tc.loc Cert.Reference.main_arg3)) (shifted 500000#32 (m (c.tc.loc Cert.Reference.main_arg2)))
        ∧ r.2.mem (c.tc.loc Cert.Reference.main_arg0) = m (c.tc.loc Cert.Reference.main_arg0)
        ∧ r.2.mem (c.tc.loc Cert.Reference.main_arg1) = m (c.tc.loc Cert.Reference.main_arg1)
        ∧ r.2.mem (c.tc.loc Cert.Reference.main_arg2) = m (c.tc.loc Cert.Reference.main_arg2)
        ∧ r.2.mem (c.tc.loc Cert.Reference.main_arg3) = m (c.tc.loc Cert.Reference.main_arg3) :=
  (θ_run Cert.Reference.defs _ _).mono (fun _ h c => h c) (Cert.Reference.Value.run m ρ)

end Cert.Proof.Plain

end
-- ==== Proof.lean ====
module

public import proofs.«01_k».proof.Defs
public import proofs.«01_k».proof.Proof.Launch
public import proofs.«01_k».proof.Proof.Range
public import proofs.«01_k».proof.Proof.RefRun
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference.Run
public import proofs.«01_k».proof.Proof.Gen.Reference
public import proofs.«01_k».proof.Proof.Gen.Pre_ids_in_range
public import Idealize.ShloMosaic.Adequacy
public import Idealize.ShloMosaic.Init
public import Idealize.ShloMosaic.Lib.Quiescent

@[expose] public section

noncomputable section

namespace Cert.Proof

open Idealize.ShloMosaic Idealize.SL.Sem
open Cert.Proof.Lookup (PreOK inRange_of_pre run_main G0 G1 G2)
open Cert.Proof.Plain (taken shifted taken_first taken_second run_ideal run_printed)

/-- The precondition bounds every index word, whatever floats the table holds. -/
theorem preOK {F : FTy → Type} [FloatOps F] (m : (ℓ : Loc Cert.KernelIdeal.nD Cert.KernelIdeal.τ Cert.KernelIdeal.sig) → Buf (Elt F) ℓ)
    (h : ∀ c : Dev Cert.KernelIdeal.nD, Cert.Pre_ids_in_range.fn (F := F) (m (c.tc.loc Cert.KernelIdeal.main_arg0)) (m (c.tc.loc Cert.KernelIdeal.main_arg1))
      (m (c.tc.loc Cert.KernelIdeal.main_arg2)) (m (c.tc.loc Cert.KernelIdeal.main_arg3)) = fun _ => 1#1) : PreOK m :=
  fun d => inRange_of_pre (h d)

/-- The kernel terminates, its arguments unchanged and every semaphore at zero, over the extended reals … -/
theorem frame_ideal : Cert.quiescent_KernelIdeal := fun m ρ hpre =>
  (θ_run Cert.KernelIdeal.defs _ _).mono (fun _ h => ⟨fun c => (h.1 c).2, h.2⟩) (run_main (F := Ideal) m ρ (preOK m hpre))

/-- … and as printed. -/
theorem frame_kernel : Cert.quiescent_Kernel := fun m ρ hpre =>
  (θ_run Cert.KernelIdeal.defs _ _).mono (fun _ h => ⟨fun c => (h.1 c).2, h.2⟩) (run_main (F := Bits) m ρ (preOK m hpre))

/-- The idealized reference terminates, its arguments unchanged; it has no semaphore. -/
theorem frame_reference_ideal : Cert.quiescent_ReferenceIdeal := fun m ρ _ =>
  (θ_run Cert.ReferenceIdeal.defs _ _).mono (fun r h => ⟨fun c => (h c).2.2.2, sem_eq_zero_of_no_sems (by decide) r.2⟩) (run_ideal (F := Ideal) m ρ)

/-- So it does under the precondition. -/
theorem frame_reference_ideal_pre : Cert.quiescent_ReferenceIdeal_pre_ids_in_range := fun m ρ _ => frame_reference_ideal m ρ trivial

/-- The reference as printed, the same. -/
theorem frame_reference : Cert.quiescent_Reference := fun m ρ _ =>
  (θ_run Cert.Reference.defs _ _).mono (fun r h => ⟨fun c => (h c).2.2.2, sem_eq_zero_of_no_sems (by decide) r.2⟩) (run_printed (F := Bits) m ρ)

/-- Over the extended reals the kernel's three results are the reference's. -/
theorem algebraic : Cert.algebraic_KernelIdeal_ReferenceIdeal := by
  intro m ρ m' ρ' hpre hagree
  have ok := preOK (F := Ideal) m hpre
  refine ⟨fun c => G0 m c, fun c => G1 m c, fun c => G2 m c, (θ_run Cert.KernelIdeal.defs _ _).mono
    (fun _ h c => ⟨(h.1 c).1.1, (h.1 c).1.2.1, (h.1 c).1.2.2, (h.1 c).2⟩) (run_main (F := Ideal) m ρ ok), ?_⟩
  refine (θ_run Cert.ReferenceIdeal.defs _ _).mono (fun _ h c => ?_) (run_ideal (F := Ideal) m' ρ')
  obtain ⟨h0, h1, h2, hargs⟩ := h c
  obtain ⟨a0, a1, a2, a3⟩ := hagree c
  rw [a0, a3] at h0
  rw [a1, a3] at h1
  rw [a2, a3] at h2
  exact ⟨h0.trans (taken_first _ (ok c).1), h1.trans (taken_second _ (ok c).2.1), h2.trans (taken_second _ (ok c).2.2), hargs⟩

/-- As printed they are the reference's bit for bit. -/
theorem bitexact : Cert.bitexact_Kernel_Reference := by
  intro m ρ m' ρ' hpre hagree
  have ok := preOK (F := Bits) m hpre
  refine ⟨fun c => G0 (F := Bits) m c, fun c => G1 (F := Bits) m c, fun c => G2 (F := Bits) m c, (θ_run Cert.KernelIdeal.defs _ _).mono
    (fun _ h c => ⟨(h.1 c).1.1, (h.1 c).1.2.1, (h.1 c).1.2.2, (h.1 c).2⟩) (run_main (F := Bits) m ρ ok), ?_⟩
  refine (θ_run Cert.Reference.defs _ _).mono (fun _ h c => ?_) (run_printed (F := Bits) m' ρ')
  obtain ⟨h0, h1, h2, hargs⟩ := h c
  obtain ⟨a0, a1, a2, a3⟩ := hagree c
  rw [a0, a3] at h0
  rw [a1, a3] at h1
  rw [a2, a3] at h2
  exact ⟨h0.trans (taken_first _ (ok c).1), h1.trans (taken_second _ (ok c).2.1), h2.trans (taken_second _ (ok c).2.2), hargs⟩

/-- Everything claimed. -/
theorem claim : Cert.Claim := ⟨Cert.Kernel.Gen.facts, Cert.KernelIdeal.Gen.facts, Cert.ReferenceIdeal.Gen.facts, Cert.Reference.Gen.facts, Cert.Pre_ids_in_range.Gen.facts,
  frame_kernel, frame_ideal, frame_reference_ideal, frame_reference_ideal_pre, frame_reference, trivial, algebraic, bitexact⟩

end Cert.Proof

end
